-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_block [hPre_finite_block : Cert.Pre_finite_block.Facts] (m : (ℓ : Loc Cert.FfnIdeal.nD Cert.FfnIdeal.τ Cert.FfnIdeal.sig) → Buf (Elt Ideal) ℓ) : Prop :=
  ∀ c : Dev Cert.FfnIdeal.nD,
    (Cert.Pre_finite_block.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_block.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_block.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_block.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_block [hPre_finite_block : Cert.Pre_finite_block.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_block.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_block.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_block.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_block.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2 = (fun _ => 1#1)

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFIdeal_finite_gates [hPre_finite_gates : Cert.Pre_finite_gates.Facts] (m : (ℓ : Loc Cert.FfnFIdeal.nD Cert.FfnFIdeal.τ Cert.FfnFIdeal.sig) → Buf (Elt Ideal) ℓ) : Prop :=
  ∀ c : Dev Cert.FfnFIdeal.nD,
    (Cert.Pre_finite_gates.fn (F := Ideal) (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg2)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4))).1 = (fun _ => 1#1)
    ∧ (Cert.Pre_finite_gates.fn (F := Ideal) (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg2)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4))).2 = (fun _ => 1#1)

def Pre_FfnFRefIdeal (m : (ℓ : Loc Cert.FfnFRefIdeal.nD Cert.FfnFRefIdeal.τ Cert.FfnFRefIdeal.sig) → Buf (Elt Ideal) ℓ) : Prop :=
  True

def Pre_FfnFRefIdeal_finite_gates [hPre_finite_gates : Cert.Pre_finite_gates.Facts] (m : (ℓ : Loc Cert.FfnFRefIdeal.nD Cert.FfnFRefIdeal.τ Cert.FfnFRefIdeal.sig) → Buf (Elt Ideal) ℓ) : Prop :=
  ∀ c : Dev Cert.FfnFRefIdeal.nD,
    (Cert.Pre_finite_gates.fn (F := Ideal) (m ((c.tc : Thread Cert.FfnFRefIdeal.nD Cert.FfnFRefIdeal.τ).loc Cert.FfnFRefIdeal.main_arg0)) (m ((c.tc : Thread Cert.FfnFRefIdeal.nD Cert.FfnFRefIdeal.τ).loc Cert.FfnFRefIdeal.main_arg1)) (m ((c.tc : Thread Cert.FfnFRefIdeal.nD Cert.FfnFRefIdeal.τ).loc Cert.FfnFRefIdeal.main_arg2)) (m ((c.tc : Thread Cert.FfnFRefIdeal.nD Cert.FfnFRefIdeal.τ).loc Cert.FfnFRefIdeal.main_arg3)) (m ((c.tc : Thread Cert.FfnFRefIdeal.nD Cert.FfnFRefIdeal.τ).loc Cert.FfnFRefIdeal.main_arg4))).1 = (fun _ => 1#1)
    ∧ (Cert.Pre_finite_gates.fn (F := Ideal) (m ((c.tc : Thread Cert.FfnFRefIdeal.nD Cert.FfnFRefIdeal.τ).loc Cert.FfnFRefIdeal.main_arg0)) (m ((c.tc : Thread Cert.FfnFRefIdeal.nD Cert.FfnFRefIdeal.τ).loc Cert.FfnFRefIdeal.main_arg1)) (m ((c.tc : Thread Cert.FfnFRefIdeal.nD Cert.FfnFRefIdeal.τ).loc Cert.FfnFRefIdeal.main_arg2)) (m ((c.tc : Thread Cert.FfnFRefIdeal.nD Cert.FfnFRefIdeal.τ).loc Cert.FfnFRefIdeal.main_arg3)) (m ((c.tc : Thread Cert.FfnFRefIdeal.nD Cert.FfnFRefIdeal.τ).loc Cert.FfnFRefIdeal.main_arg4))).2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_ColsRefIdeal (m : (ℓ : Loc Cert.ColsRefIdeal.nD Cert.ColsRefIdeal.τ Cert.ColsRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnL (m : (ℓ : Loc Cert.FfnL.nD Cert.FfnL.τ Cert.FfnL.sig) → Buf (Elt Bits) ℓ) : Prop :=
  True

def Pre_FfnLIdeal (m : (ℓ : Loc Cert.FfnLIdeal.nD Cert.FfnLIdeal.τ Cert.FfnLIdeal.sig) → Buf (Elt Ideal) ℓ) : Prop :=
  True

def Pre_FfnLIdeal_finite_gates_l [hPre_finite_gates_l : Cert.Pre_finite_gates_l.Facts] (m : (ℓ : Loc Cert.FfnLIdeal.nD Cert.FfnLIdeal.τ Cert.FfnLIdeal.sig) → Buf (Elt Ideal) ℓ) : Prop :=
  ∀ c : Dev Cert.FfnLIdeal.nD,
    (Cert.Pre_finite_gates_l.fn (F := Ideal) (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1)) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg3)) (m ((c.tc : Thread Cert.FfnLIdeal.nD Cert.FfnLIdeal.τ).loc Cert.FfnLIdeal.main_arg4)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6))).1 = (fun _ => 1#1)
    ∧ (Cert.Pre_finite_gates_l.fn (F := Ideal) (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1)) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg3)) (m ((c.tc : Thread Cert.FfnLIdeal.nD Cert.FfnLIdeal.τ).loc Cert.FfnLIdeal.main_arg4)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6))).2 = (fun _ => 1#1)

def Pre_FfnLRefIdeal (m : (ℓ : Loc Cert.FfnLRefIdeal.nD Cert.FfnLRefIdeal.τ Cert.FfnLRefIdeal.sig) → Buf (Elt Ideal) ℓ) : Prop :=
  True

def Pre_FfnLRefIdeal_finite_gates_l [hPre_finite_gates_l : Cert.Pre_finite_gates_l.Facts] (m : (ℓ : Loc Cert.FfnLRefIdeal.nD Cert.FfnLRefIdeal.τ Cert.FfnLRefIdeal.sig) → Buf (Elt Ideal) ℓ) : Prop :=
  ∀ c : Dev Cert.FfnLRefIdeal.nD,
    (Cert.Pre_finite_gates_l.fn (F := Ideal) (m ((c.tc : Thread Cert.FfnLRefIdeal.nD Cert.FfnLRefIdeal.τ).loc Cert.FfnLRefIdeal.main_arg0)) (m ((c.tc : Thread Cert.FfnLRefIdeal.nD Cert.FfnLRefIdeal.τ).loc Cert.FfnLRefIdeal.main_arg1)) (m ((c.tc : Thread Cert.FfnLRefIdeal.nD Cert.FfnLRefIdeal.τ).loc Cert.FfnLRefIdeal.main_arg2)) (m ((c.tc : Thread Cert.FfnLRefIdeal.nD Cert.FfnLRefIdeal.τ).loc Cert.FfnLRefIdeal.main_arg3)) (m ((c.tc : Thread Cert.FfnLRefIdeal.nD Cert.FfnLRefIdeal.τ).loc Cert.FfnLRefIdeal.main_arg4)) (m ((c.tc : Thread Cert.FfnLRefIdeal.nD Cert.FfnLRefIdeal.τ).loc Cert.FfnLRefIdeal.main_arg5)) (m ((c.tc : Thread Cert.FfnLRefIdeal.nD Cert.FfnLRefIdeal.τ).loc Cert.FfnLRefIdeal.main_arg6))).1 = (fun _ => 1#1)
    ∧ (Cert.Pre_finite_gates_l.fn (F := Ideal) (m ((c.tc : Thread Cert.FfnLRefIdeal.nD Cert.FfnLRefIdeal.τ).loc Cert.FfnLRefIdeal.main_arg0)) (m ((c.tc : Thread Cert.FfnLRefIdeal.nD Cert.FfnLRefIdeal.τ).loc Cert.FfnLRefIdeal.main_arg1)) (m ((c.tc : Thread Cert.FfnLRefIdeal.nD Cert.FfnLRefIdeal.τ).loc Cert.FfnLRefIdeal.main_arg2)) (m ((c.tc : Thread Cert.FfnLRefIdeal.nD Cert.FfnLRefIdeal.τ).loc Cert.FfnLRefIdeal.main_arg3)) (m ((c.tc : Thread Cert.FfnLRefIdeal.nD Cert.FfnLRefIdeal.τ).loc Cert.FfnLRefIdeal.main_arg4)) (m ((c.tc : Thread Cert.FfnLRefIdeal.nD Cert.FfnLRefIdeal.τ).loc Cert.FfnLRefIdeal.main_arg5)) (m ((c.tc : Thread Cert.FfnLRefIdeal.nD Cert.FfnLRefIdeal.τ).loc Cert.FfnLRefIdeal.main_arg6))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_block [hFfnIdeal : Cert.FfnIdeal.Facts] [hPre_finite_block : Cert.Pre_finite_block.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_block m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_block [hFfnRefIdeal : Cert.FfnRefIdeal.Facts] [hPre_finite_block : Cert.Pre_finite_block.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_block m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFIdeal_pre_finite_gates [hFfnFIdeal : Cert.FfnFIdeal.Facts] [hPre_finite_gates : Cert.Pre_finite_gates.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal_finite_gates m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4))
      ∧ r.2.sem = fun _ => 0)

def quiescent_FfnFRefIdeal_pre_finite_gates [hFfnFRefIdeal : Cert.FfnFRefIdeal.Facts] [hPre_finite_gates : Cert.Pre_finite_gates.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal_finite_gates m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4)
      ∧ r.2.mem ((c.tc : Thread Cert.AttnF.nD Cert.AttnF.τ).loc Cert.AttnF.main_arg5) = m ((c.tc : Thread Cert.AttnF.nD Cert.AttnF.τ).loc Cert.AttnF.main_arg5))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4)
      ∧ r.2.mem ((c.tc : Thread Cert.AttnFIdeal.nD Cert.AttnFIdeal.τ).loc Cert.AttnFIdeal.main_arg5) = m ((c.tc : Thread Cert.AttnFIdeal.nD Cert.AttnFIdeal.τ).loc Cert.AttnFIdeal.main_arg5))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4)
      ∧ r.2.mem ((c.tc : Thread Cert.AttnFRefIdeal.nD Cert.AttnFRefIdeal.τ).loc Cert.AttnFRefIdeal.main_arg5) = m ((c.tc : Thread Cert.AttnFRefIdeal.nD Cert.AttnFRefIdeal.τ).loc Cert.AttnFRefIdeal.main_arg5))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2))
      ∧ r.2.sem = fun _ => 0)

def quiescent_ColsRefIdeal [hColsRefIdeal : Cert.ColsRefIdeal.Facts] : Prop :=
  ∀ (m : (ℓ : Loc Cert.ColsRefIdeal.nD Cert.ColsRefIdeal.τ Cert.ColsRefIdeal.sig) → Buf (Elt Ideal) ℓ) (g : Dev Cert.ColsRefIdeal.nD → PrngReg), Pre_ColsRefIdeal m →
    θ_run (Cert.ColsRefIdeal.defs (F := Ideal)) (onTc (τ := Cert.ColsRefIdeal.τ) (Cert.ColsRefIdeal.main (F := Ideal))) ⟨m, fun _ => 0, g⟩ (fun r => (∀ c : Dev Cert.ColsRefIdeal.nD,
      r.2.mem ((c.tc : Thread Cert.ColsRefIdeal.nD Cert.ColsRefIdeal.τ).loc Cert.ColsRefIdeal.main_arg0) = m ((c.tc : Thread Cert.ColsRefIdeal.nD Cert.ColsRefIdeal.τ).loc Cert.ColsRefIdeal.main_arg0)
      ∧ r.2.mem ((c.tc : Thread Cert.ColsRefIdeal.nD Cert.ColsRefIdeal.τ).loc Cert.ColsRefIdeal.main_arg1) = m ((c.tc : Thread Cert.ColsRefIdeal.nD Cert.ColsRefIdeal.τ).loc Cert.ColsRefIdeal.main_arg1)
      ∧ r.2.mem ((c.tc : Thread Cert.ColsRefIdeal.nD Cert.ColsRefIdeal.τ).loc Cert.ColsRefIdeal.main_arg2) = m ((c.tc : Thread Cert.ColsRefIdeal.nD Cert.ColsRefIdeal.τ).loc Cert.ColsRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnL [hFfnL : Cert.FfnL.Facts] : Prop :=
  ∀ (m : (ℓ : Loc Cert.FfnL.nD Cert.FfnL.τ Cert.FfnL.sig) → Buf (Elt Bits) ℓ) (g : Dev Cert.FfnL.nD → PrngReg), Pre_FfnL m →
    θ_run (Cert.FfnL.defs (F := Bits)) (onTc (τ := Cert.FfnL.τ) (Cert.FfnL.main (F := Bits))) ⟨m, fun _ => 0, g⟩ (fun r => (∀ c : Dev Cert.FfnL.nD,
      r.2.mem ((c.tc : Thread Cert.FfnL.nD Cert.FfnL.τ).loc Cert.FfnL.main_arg0) = m ((c.tc : Thread Cert.FfnL.nD Cert.FfnL.τ).loc Cert.FfnL.main_arg0)
      ∧ r.2.mem ((c.tc : Thread Cert.FfnL.nD Cert.FfnL.τ).loc Cert.FfnL.main_arg1) = m ((c.tc : Thread Cert.FfnL.nD Cert.FfnL.τ).loc Cert.FfnL.main_arg1)
      ∧ r.2.mem ((c.tc : Thread Cert.FfnL.nD Cert.FfnL.τ).loc Cert.FfnL.main_arg2) = m ((c.tc : Thread Cert.FfnL.nD Cert.FfnL.τ).loc Cert.FfnL.main_arg2)
      ∧ r.2.mem ((c.tc : Thread Cert.FfnL.nD Cert.FfnL.τ).loc Cert.FfnL.main_arg3) = m ((c.tc : Thread Cert.FfnL.nD Cert.FfnL.τ).loc Cert.FfnL.main_arg3)
      ∧ r.2.mem ((c.tc : Thread Cert.FfnL.nD Cert.FfnL.τ).loc Cert.FfnL.main_arg4) = m ((c.tc : Thread Cert.FfnL.nD Cert.FfnL.τ).loc Cert.FfnL.main_arg4)
      ∧ r.2.mem ((c.tc : Thread Cert.FfnL.nD Cert.FfnL.τ).loc Cert.FfnL.main_arg5) = m ((c.tc : Thread Cert.FfnL.nD Cert.FfnL.τ).loc Cert.FfnL.main_arg5)
      ∧ r.2.mem ((c.tc : Thread Cert.FfnL.nD Cert.FfnL.τ).loc Cert.FfnL.main_arg6) = m ((c.tc : Thread Cert.FfnL.nD Cert.FfnL.τ).loc Cert.FfnL.main_arg6))
      ∧ r.2.sem = fun _ => 0)

def quiescent_FfnLIdeal [hFfnLIdeal : Cert.FfnLIdeal.Facts] : Prop :=
  ∀ (m : (ℓ : Loc Cert.FfnLIdeal.nD Cert.FfnLIdeal.τ Cert.FfnLIdeal.sig) → Buf (Elt Ideal) ℓ) (g : Dev Cert.FfnLIdeal.nD → PrngReg), Pre_FfnLIdeal m →
    θ_run (Cert.FfnLIdeal.defs (F := Ideal)) (onTc (τ := Cert.FfnLIdeal.τ) (Cert.FfnLIdeal.main (F := Ideal))) ⟨m, fun _ => 0, g⟩ (fun r => (∀ c : Dev Cert.FfnLIdeal.nD,
      r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
      ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
      ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
      ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
      ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
      ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
      ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6))
      ∧ r.2.sem = fun _ => 0)

def quiescent_FfnLIdeal_pre_finite_gates_l [hFfnLIdeal : Cert.FfnLIdeal.Facts] [hPre_finite_gates_l : Cert.Pre_finite_gates_l.Facts] : Prop :=
  ∀ (m : (ℓ : Loc Cert.FfnLIdeal.nD Cert.FfnLIdeal.τ Cert.FfnLIdeal.sig) → Buf (Elt Ideal) ℓ) (g : Dev Cert.FfnLIdeal.nD → PrngReg), Pre_FfnLIdeal_finite_gates_l m →
    θ_run (Cert.FfnLIdeal.defs (F := Ideal)) (onTc (τ := Cert.FfnLIdeal.τ) (Cert.FfnLIdeal.main (F := Ideal))) ⟨m, fun _ => 0, g⟩ (fun r => (∀ c : Dev Cert.FfnLIdeal.nD,
      r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
      ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
      ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
      ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
      ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
      ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
      ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6))
      ∧ r.2.sem = fun _ => 0)

def quiescent_FfnLRefIdeal [hFfnLRefIdeal : Cert.FfnLRefIdeal.Facts] : Prop :=
  ∀ (m : (ℓ : Loc Cert.FfnLRefIdeal.nD Cert.FfnLRefIdeal.τ Cert.FfnLRefIdeal.sig) → Buf (Elt Ideal) ℓ) (g : Dev Cert.FfnLRefIdeal.nD → PrngReg), Pre_FfnLRefIdeal m →
    θ_run (Cert.FfnLRefIdeal.defs (F := Ideal)) (onTc (τ := Cert.FfnLRefIdeal.τ) (Cert.FfnLRefIdeal.main (F := Ideal))) ⟨m, fun _ => 0, g⟩ (fun r => (∀ c : Dev Cert.FfnLRefIdeal.nD,
      r.2.mem ((c.tc : Thread Cert.FfnLRefIdeal.nD Cert.FfnLRefIdeal.τ).loc Cert.FfnLRefIdeal.main_arg0) = m ((c.tc : Thread Cert.FfnLRefIdeal.nD Cert.FfnLRefIdeal.τ).loc Cert.FfnLRefIdeal.main_arg0)
      ∧ r.2.mem ((c.tc : Thread Cert.FfnLRefIdeal.nD Cert.FfnLRefIdeal.τ).loc Cert.FfnLRefIdeal.main_arg1) = m ((c.tc : Thread Cert.FfnLRefIdeal.nD Cert.FfnLRefIdeal.τ).loc Cert.FfnLRefIdeal.main_arg1)
      ∧ r.2.mem ((c.tc : Thread Cert.FfnLRefIdeal.nD Cert.FfnLRefIdeal.τ).loc Cert.FfnLRefIdeal.main_arg2) = m ((c.tc : Thread Cert.FfnLRefIdeal.nD Cert.FfnLRefIdeal.τ).loc Cert.FfnLRefIdeal.main_arg2)
      ∧ r.2.mem ((c.tc : Thread Cert.FfnLRefIdeal.nD Cert.FfnLRefIdeal.τ).loc Cert.FfnLRefIdeal.main_arg3) = m ((c.tc : Thread Cert.FfnLRefIdeal.nD Cert.FfnLRefIdeal.τ).loc Cert.FfnLRefIdeal.main_arg3)
      ∧ r.2.mem ((c.tc : Thread Cert.FfnLRefIdeal.nD Cert.FfnLRefIdeal.τ).loc Cert.FfnLRefIdeal.main_arg4) = m ((c.tc : Thread Cert.FfnLRefIdeal.nD Cert.FfnLRefIdeal.τ).loc Cert.FfnLRefIdeal.main_arg4)
      ∧ r.2.mem ((c.tc : Thread Cert.FfnLRefIdeal.nD Cert.FfnLRefIdeal.τ).loc Cert.FfnLRefIdeal.main_arg5) = m ((c.tc : Thread Cert.FfnLRefIdeal.nD Cert.FfnLRefIdeal.τ).loc Cert.FfnLRefIdeal.main_arg5)
      ∧ r.2.mem ((c.tc : Thread Cert.FfnLRefIdeal.nD Cert.FfnLRefIdeal.τ).loc Cert.FfnLRefIdeal.main_arg6) = m ((c.tc : Thread Cert.FfnLRefIdeal.nD Cert.FfnLRefIdeal.τ).loc Cert.FfnLRefIdeal.main_arg6))
      ∧ r.2.sem = fun _ => 0)

def quiescent_FfnLRefIdeal_pre_finite_gates_l [hFfnLRefIdeal : Cert.FfnLRefIdeal.Facts] [hPre_finite_gates_l : Cert.Pre_finite_gates_l.Facts] : Prop :=
  ∀ (m : (ℓ : Loc Cert.FfnLRefIdeal.nD Cert.FfnLRefIdeal.τ Cert.FfnLRefIdeal.sig) → Buf (Elt Ideal) ℓ) (g : Dev Cert.FfnLRefIdeal.nD → PrngReg), Pre_FfnLRefIdeal_finite_gates_l m →
    θ_run (Cert.FfnLRefIdeal.defs (F := Ideal)) (onTc (τ := Cert.FfnLRefIdeal.τ) (Cert.FfnLRefIdeal.main (F := Ideal))) ⟨m, fun _ => 0, g⟩ (fun r => (∀ c : Dev Cert.FfnLRefIdeal.nD,
      r.2.mem ((c.tc : Thread Cert.FfnLRefIdeal.nD Cert.FfnLRefIdeal.τ).loc Cert.FfnLRefIdeal.main_arg0) = m ((c.tc : Thread Cert.FfnLRefIdeal.nD Cert.FfnLRefIdeal.τ).loc Cert.FfnLRefIdeal.main_arg0)
      ∧ r.2.mem ((c.tc : Thread Cert.FfnLRefIdeal.nD Cert.FfnLRefIdeal.τ).loc Cert.FfnLRefIdeal.main_arg1) = m ((c.tc : Thread Cert.FfnLRefIdeal.nD Cert.FfnLRefIdeal.τ).loc Cert.FfnLRefIdeal.main_arg1)
      ∧ r.2.mem ((c.tc : Thread Cert.FfnLRefIdeal.nD Cert.FfnLRefIdeal.τ).loc Cert.FfnLRefIdeal.main_arg2) = m ((c.tc : Thread Cert.FfnLRefIdeal.nD Cert.FfnLRefIdeal.τ).loc Cert.FfnLRefIdeal.main_arg2)
      ∧ r.2.mem ((c.tc : Thread Cert.FfnLRefIdeal.nD Cert.FfnLRefIdeal.τ).loc Cert.FfnLRefIdeal.main_arg3) = m ((c.tc : Thread Cert.FfnLRefIdeal.nD Cert.FfnLRefIdeal.τ).loc Cert.FfnLRefIdeal.main_arg3)
      ∧ r.2.mem ((c.tc : Thread Cert.FfnLRefIdeal.nD Cert.FfnLRefIdeal.τ).loc Cert.FfnLRefIdeal.main_arg4) = m ((c.tc : Thread Cert.FfnLRefIdeal.nD Cert.FfnLRefIdeal.τ).loc Cert.FfnLRefIdeal.main_arg4)
      ∧ r.2.mem ((c.tc : Thread Cert.FfnLRefIdeal.nD Cert.FfnLRefIdeal.τ).loc Cert.FfnLRefIdeal.main_arg5) = m ((c.tc : Thread Cert.FfnLRefIdeal.nD Cert.FfnLRefIdeal.τ).loc Cert.FfnLRefIdeal.main_arg5)
      ∧ r.2.mem ((c.tc : Thread Cert.FfnLRefIdeal.nD Cert.FfnLRefIdeal.τ).loc Cert.FfnLRefIdeal.main_arg6) = m ((c.tc : Thread Cert.FfnLRefIdeal.nD Cert.FfnLRefIdeal.τ).loc Cert.FfnLRefIdeal.main_arg6))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v21_0)) (v1 : (c : Dev Cert.AttnIdeal.nD) → Buf (Elt Ideal) ((c.tc : Thread Cert.AttnIdeal.nD Cert.AttnIdeal.τ).loc Cert.AttnIdeal.main_v21_1)) (v2 : (c : Dev Cert.AttnIdeal.nD) → Buf (Elt Ideal) ((c.tc : Thread Cert.AttnIdeal.nD Cert.AttnIdeal.τ).loc Cert.AttnIdeal.main_v21_2)) (v3 : (c : Dev Cert.AttnIdeal.nD) → Buf (Elt Ideal) ((c.tc : Thread Cert.AttnIdeal.nD Cert.AttnIdeal.τ).loc Cert.AttnIdeal.main_v21_3)) (v4 : (c : Dev Cert.AttnIdeal.nD) → Buf (Elt Ideal) ((c.tc : Thread Cert.AttnIdeal.nD Cert.AttnIdeal.τ).loc Cert.AttnIdeal.main_v21_4)) (v5 : (c : Dev Cert.AttnIdeal.nD) → Buf (Elt Ideal) ((c.tc : Thread Cert.AttnIdeal.nD Cert.AttnIdeal.τ).loc Cert.AttnIdeal.main_v21_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v21_0) = v0 c
          ∧ r.2.mem ((c.tc : Thread Cert.AttnIdeal.nD Cert.AttnIdeal.τ).loc Cert.AttnIdeal.main_v21_1) = v1 c
          ∧ r.2.mem ((c.tc : Thread Cert.AttnIdeal.nD Cert.AttnIdeal.τ).loc Cert.AttnIdeal.main_v21_2) = v2 c
          ∧ r.2.mem ((c.tc : Thread Cert.AttnIdeal.nD Cert.AttnIdeal.τ).loc Cert.AttnIdeal.main_v21_3) = v3 c
          ∧ r.2.mem ((c.tc : Thread Cert.AttnIdeal.nD Cert.AttnIdeal.τ).loc Cert.AttnIdeal.main_v21_4) = v4 c
          ∧ r.2.mem ((c.tc : Thread Cert.AttnIdeal.nD Cert.AttnIdeal.τ).loc Cert.AttnIdeal.main_v21_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v103) = v0 c
          ∧ r.2.mem ((c.tc : Thread Cert.AttnRefIdeal.nD Cert.AttnRefIdeal.τ).loc Cert.AttnRefIdeal.main_v104) = v1 c
          ∧ r.2.mem ((c.tc : Thread Cert.AttnRefIdeal.nD Cert.AttnRefIdeal.τ).loc Cert.AttnRefIdeal.main_v105) = v2 c
          ∧ r.2.mem ((c.tc : Thread Cert.AttnRefIdeal.nD Cert.AttnRefIdeal.τ).loc Cert.AttnRefIdeal.main_v80) = v3 c
          ∧ r.2.mem ((c.tc : Thread Cert.AttnRefIdeal.nD Cert.AttnRefIdeal.τ).loc Cert.AttnRefIdeal.main_v79) = v4 c
          ∧ r.2.mem ((c.tc : Thread Cert.AttnRefIdeal.nD Cert.AttnRefIdeal.τ).loc Cert.AttnRefIdeal.main_v106) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Ffn_FfnIdeal : Prop :=
  True

def algebraic_FfnIdeal_FfnRefIdeal_pre_finite_block [hFfnIdeal : Cert.FfnIdeal.Facts] [hFfnRefIdeal : Cert.FfnRefIdeal.Facts] [hPre_finite_block : Cert.Pre_finite_block.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_block m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)) (v4 : (c : Dev Cert.FfnIdeal.nD) → Buf (Elt Ideal) ((c.tc : Thread Cert.FfnIdeal.nD Cert.FfnIdeal.τ).loc Cert.FfnIdeal.main_v30_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_v30_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v49) = v1 c
          ∧ r.2.mem ((c.tc : Thread Cert.FfnRefIdeal.nD Cert.FfnRefIdeal.τ).loc Cert.FfnRefIdeal.main_v50) = v2 c
          ∧ r.2.mem ((c.tc : Thread Cert.FfnRefIdeal.nD Cert.FfnRefIdeal.τ).loc Cert.FfnRefIdeal.main_v51) = v3 c
          ∧ r.2.mem ((c.tc : Thread Cert.FfnRefIdeal.nD Cert.FfnRefIdeal.τ).loc Cert.FfnRefIdeal.main_v52) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnF_FfnFIdeal : Prop :=
  True

def algebraic_FfnFIdeal_FfnFRefIdeal_pre_finite_gates [hFfnFIdeal : Cert.FfnFIdeal.Facts] [hFfnFRefIdeal : Cert.FfnFRefIdeal.Facts] [hPre_finite_gates : Cert.Pre_finite_gates.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal_finite_gates m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)) →
    ∃ (v0 : (c : Dev Cert.FfnFIdeal.nD) → Buf (Elt Ideal) ((c.tc : Thread Cert.FfnFIdeal.nD Cert.FfnFIdeal.τ).loc Cert.FfnFIdeal.main_v6_0)) (v1 : (c : Dev Cert.FfnFIdeal.nD) → Buf (Elt Ideal) ((c.tc : Thread Cert.FfnFIdeal.nD Cert.FfnFIdeal.τ).loc Cert.FfnFIdeal.main_v6_1)) (v2 : (c : Dev Cert.FfnFIdeal.nD) → Buf (Elt Ideal) ((c.tc : Thread Cert.FfnFIdeal.nD Cert.FfnFIdeal.τ).loc Cert.FfnFIdeal.main_v6_2)) (v3 : (c : Dev Cert.FfnFIdeal.nD) → Buf (Elt Ideal) ((c.tc : Thread Cert.FfnFIdeal.nD Cert.FfnFIdeal.τ).loc Cert.FfnFIdeal.main_v6_3)) (v4 : (c : Dev Cert.FfnFIdeal.nD) → Buf (Elt Ideal) ((c.tc : Thread Cert.FfnFIdeal.nD Cert.FfnFIdeal.τ).loc Cert.FfnFIdeal.main_v6_4)) (v5 : (c : Dev Cert.FfnFIdeal.nD) → Buf (Elt Ideal) ((c.tc : Thread Cert.FfnFIdeal.nD Cert.FfnFIdeal.τ).loc Cert.FfnFIdeal.main_v6_5)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v6_0) = v0 c
          ∧ r.2.mem ((c.tc : Thread Cert.FfnFIdeal.nD Cert.FfnFIdeal.τ).loc Cert.FfnFIdeal.main_v6_1) = v1 c
          ∧ r.2.mem ((c.tc : Thread Cert.FfnFIdeal.nD Cert.FfnFIdeal.τ).loc Cert.FfnFIdeal.main_v6_2) = v2 c
          ∧ r.2.mem ((c.tc : Thread Cert.FfnFIdeal.nD Cert.FfnFIdeal.τ).loc Cert.FfnFIdeal.main_v6_3) = v3 c
          ∧ r.2.mem ((c.tc : Thread Cert.FfnFIdeal.nD Cert.FfnFIdeal.τ).loc Cert.FfnFIdeal.main_v6_4) = v4 c
          ∧ r.2.mem ((c.tc : Thread Cert.FfnFIdeal.nD Cert.FfnFIdeal.τ).loc Cert.FfnFIdeal.main_v6_5) = v5 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v22) = v0 c
          ∧ r.2.mem ((c.tc : Thread Cert.FfnFRefIdeal.nD Cert.FfnFRefIdeal.τ).loc Cert.FfnFRefIdeal.main_v23) = v1 c
          ∧ r.2.mem ((c.tc : Thread Cert.FfnFRefIdeal.nD Cert.FfnFRefIdeal.τ).loc Cert.FfnFRefIdeal.main_v7) = v2 c
          ∧ r.2.mem ((c.tc : Thread Cert.FfnFRefIdeal.nD Cert.FfnFRefIdeal.τ).loc Cert.FfnFRefIdeal.main_v24) = v3 c
          ∧ r.2.mem ((c.tc : Thread Cert.FfnFRefIdeal.nD Cert.FfnFRefIdeal.τ).loc Cert.FfnFRefIdeal.main_v25) = v4 c
          ∧ r.2.mem ((c.tc : Thread Cert.FfnFRefIdeal.nD Cert.FfnFRefIdeal.τ).loc Cert.FfnFRefIdeal.main_v26) = v5 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)
      ∧ m' ((c.tc : Thread Cert.AttnFRefIdeal.nD Cert.AttnFRefIdeal.τ).loc Cert.AttnFRefIdeal.main_arg5) = m ((c.tc : Thread Cert.AttnFIdeal.nD Cert.AttnFIdeal.τ).loc Cert.AttnFIdeal.main_arg5)) →
    ∃ (v0 : (c : Dev Cert.AttnFIdeal.nD) → Buf (Elt Ideal) ((c.tc : Thread Cert.AttnFIdeal.nD Cert.AttnFIdeal.τ).loc Cert.AttnFIdeal.main_v5_0)) (v1 : (c : Dev Cert.AttnFIdeal.nD) → Buf (Elt Ideal) ((c.tc : Thread Cert.AttnFIdeal.nD Cert.AttnFIdeal.τ).loc Cert.AttnFIdeal.main_v5_1)) (v2 : (c : Dev Cert.AttnFIdeal.nD) → Buf (Elt Ideal) ((c.tc : Thread Cert.AttnFIdeal.nD Cert.AttnFIdeal.τ).loc Cert.AttnFIdeal.main_v5_2)) (v3 : (c : Dev Cert.AttnFIdeal.nD) → Buf (Elt Ideal) ((c.tc : Thread Cert.AttnFIdeal.nD Cert.AttnFIdeal.τ).loc Cert.AttnFIdeal.main_v5_3)) (v4 : (c : Dev Cert.AttnFIdeal.nD) → Buf (Elt Ideal) ((c.tc : Thread Cert.AttnFIdeal.nD Cert.AttnFIdeal.τ).loc Cert.AttnFIdeal.main_v5_4)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v5_0) = v0 c
          ∧ r.2.mem ((c.tc : Thread Cert.AttnFIdeal.nD Cert.AttnFIdeal.τ).loc Cert.AttnFIdeal.main_v5_1) = v1 c
          ∧ r.2.mem ((c.tc : Thread Cert.AttnFIdeal.nD Cert.AttnFIdeal.τ).loc Cert.AttnFIdeal.main_v5_2) = v2 c
          ∧ r.2.mem ((c.tc : Thread Cert.AttnFIdeal.nD Cert.AttnFIdeal.τ).loc Cert.AttnFIdeal.main_v5_3) = v3 c
          ∧ r.2.mem ((c.tc : Thread Cert.AttnFIdeal.nD Cert.AttnFIdeal.τ).loc Cert.AttnFIdeal.main_v5_4) = v4 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4)
          ∧ r.2.mem ((c.tc : Thread Cert.AttnFIdeal.nD Cert.AttnFIdeal.τ).loc Cert.AttnFIdeal.main_arg5) = m ((c.tc : Thread Cert.AttnFIdeal.nD Cert.AttnFIdeal.τ).loc Cert.AttnFIdeal.main_arg5))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v35) = v0 c
          ∧ r.2.mem ((c.tc : Thread Cert.AttnFRefIdeal.nD Cert.AttnFRefIdeal.τ).loc Cert.AttnFRefIdeal.main_v36) = v1 c
          ∧ r.2.mem ((c.tc : Thread Cert.AttnFRefIdeal.nD Cert.AttnFRefIdeal.τ).loc Cert.AttnFRefIdeal.main_v7) = v2 c
          ∧ r.2.mem ((c.tc : Thread Cert.AttnFRefIdeal.nD Cert.AttnFRefIdeal.τ).loc Cert.AttnFRefIdeal.main_v37) = v3 c
          ∧ r.2.mem ((c.tc : Thread Cert.AttnFRefIdeal.nD Cert.AttnFRefIdeal.τ).loc Cert.AttnFRefIdeal.main_v38) = v4 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4)
          ∧ r.2.mem ((c.tc : Thread Cert.AttnFRefIdeal.nD Cert.AttnFRefIdeal.τ).loc Cert.AttnFRefIdeal.main_arg5) = m' ((c.tc : Thread Cert.AttnFRefIdeal.nD Cert.AttnFRefIdeal.τ).loc Cert.AttnFRefIdeal.main_arg5))

def preserves_Cols_ColsIdeal : Prop :=
  True

def algebraic_ColsIdeal_ColsRefIdeal [hColsIdeal : Cert.ColsIdeal.Facts] [hColsRefIdeal : Cert.ColsRefIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.ColsRefIdeal.nD Cert.ColsRefIdeal.τ Cert.ColsRefIdeal.sig) → Buf (Elt Ideal) ℓ) (g' : Dev Cert.ColsRefIdeal.nD → PrngReg), Pre_ColsIdeal m →
    (∀ c : Dev Cert.ColsIdeal.nD,
      m' ((c.tc : Thread Cert.ColsRefIdeal.nD Cert.ColsRefIdeal.τ).loc Cert.ColsRefIdeal.main_arg0) = m ((c.tc : Thread Cert.ColsIdeal.nD Cert.ColsIdeal.τ).loc Cert.ColsIdeal.main_arg0)
      ∧ m' ((c.tc : Thread Cert.ColsRefIdeal.nD Cert.ColsRefIdeal.τ).loc Cert.ColsRefIdeal.main_arg1) = m ((c.tc : Thread Cert.ColsIdeal.nD Cert.ColsIdeal.τ).loc Cert.ColsIdeal.main_arg1)
      ∧ m' ((c.tc : Thread Cert.ColsRefIdeal.nD Cert.ColsRefIdeal.τ).loc Cert.ColsRefIdeal.main_arg2) = m ((c.tc : Thread Cert.ColsIdeal.nD Cert.ColsIdeal.τ).loc Cert.ColsIdeal.main_arg2)) →
    ∃ (v0 : (c : Dev Cert.ColsIdeal.nD) → Buf (Elt Ideal) ((c.tc : Thread Cert.ColsIdeal.nD Cert.ColsIdeal.τ).loc Cert.ColsIdeal.main_v2)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v2) = v0 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2))
      ∧ θ_run (Cert.ColsRefIdeal.defs (F := Ideal)) (onTc (τ := Cert.ColsRefIdeal.τ) (Cert.ColsRefIdeal.main (F := Ideal))) ⟨m', fun _ => 0, g'⟩ (fun r => ∀ c : Dev Cert.ColsRefIdeal.nD,
          r.2.mem ((c.tc : Thread Cert.ColsRefIdeal.nD Cert.ColsRefIdeal.τ).loc Cert.ColsRefIdeal.main_v4) = v0 c
          ∧ r.2.mem ((c.tc : Thread Cert.ColsRefIdeal.nD Cert.ColsRefIdeal.τ).loc Cert.ColsRefIdeal.main_arg0) = m' ((c.tc : Thread Cert.ColsRefIdeal.nD Cert.ColsRefIdeal.τ).loc Cert.ColsRefIdeal.main_arg0)
          ∧ r.2.mem ((c.tc : Thread Cert.ColsRefIdeal.nD Cert.ColsRefIdeal.τ).loc Cert.ColsRefIdeal.main_arg1) = m' ((c.tc : Thread Cert.ColsRefIdeal.nD Cert.ColsRefIdeal.τ).loc Cert.ColsRefIdeal.main_arg1)
          ∧ r.2.mem ((c.tc : Thread Cert.ColsRefIdeal.nD Cert.ColsRefIdeal.τ).loc Cert.ColsRefIdeal.main_arg2) = m' ((c.tc : Thread Cert.ColsRefIdeal.nD Cert.ColsRefIdeal.τ).loc Cert.ColsRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnL_FfnLIdeal : Prop :=
  True

def algebraic_FfnLIdeal_FfnLRefIdeal_pre_finite_gates_l [hFfnLIdeal : Cert.FfnLIdeal.Facts] [hFfnLRefIdeal : Cert.FfnLRefIdeal.Facts] [hPre_finite_gates_l : Cert.Pre_finite_gates_l.Facts] : Prop :=
  ∀ (m : (ℓ : Loc Cert.FfnLIdeal.nD Cert.FfnLIdeal.τ Cert.FfnLIdeal.sig) → Buf (Elt Ideal) ℓ) (g : Dev Cert.FfnLIdeal.nD → PrngReg)
    (m' : (ℓ : Loc Cert.FfnLRefIdeal.nD Cert.FfnLRefIdeal.τ Cert.FfnLRefIdeal.sig) → Buf (Elt Ideal) ℓ) (g' : Dev Cert.FfnLRefIdeal.nD → PrngReg), Pre_FfnLIdeal_finite_gates_l m →
    (∀ c : Dev Cert.FfnLIdeal.nD,
      m' ((c.tc : Thread Cert.FfnLRefIdeal.nD Cert.FfnLRefIdeal.τ).loc Cert.FfnLRefIdeal.main_arg0) = m ((c.tc : Thread Cert.FfnLIdeal.nD Cert.FfnLIdeal.τ).loc Cert.FfnLIdeal.main_arg0)
      ∧ m' ((c.tc : Thread Cert.FfnLRefIdeal.nD Cert.FfnLRefIdeal.τ).loc Cert.FfnLRefIdeal.main_arg1) = m ((c.tc : Thread Cert.FfnLIdeal.nD Cert.FfnLIdeal.τ).loc Cert.FfnLIdeal.main_arg1)
      ∧ m' ((c.tc : Thread Cert.FfnLRefIdeal.nD Cert.FfnLRefIdeal.τ).loc Cert.FfnLRefIdeal.main_arg2) = m ((c.tc : Thread Cert.FfnLIdeal.nD Cert.FfnLIdeal.τ).loc Cert.FfnLIdeal.main_arg2)
      ∧ m' ((c.tc : Thread Cert.FfnLRefIdeal.nD Cert.FfnLRefIdeal.τ).loc Cert.FfnLRefIdeal.main_arg3) = m ((c.tc : Thread Cert.FfnLIdeal.nD Cert.FfnLIdeal.τ).loc Cert.FfnLIdeal.main_arg3)
      ∧ m' ((c.tc : Thread Cert.FfnLRefIdeal.nD Cert.FfnLRefIdeal.τ).loc Cert.FfnLRefIdeal.main_arg4) = m ((c.tc : Thread Cert.FfnLIdeal.nD Cert.FfnLIdeal.τ).loc Cert.FfnLIdeal.main_arg4)
      ∧ m' ((c.tc : Thread Cert.FfnLRefIdeal.nD Cert.FfnLRefIdeal.τ).loc Cert.FfnLRefIdeal.main_arg5) = m ((c.tc : Thread Cert.FfnLIdeal.nD Cert.FfnLIdeal.τ).loc Cert.FfnLIdeal.main_arg5)
      ∧ m' ((c.tc : Thread Cert.FfnLRefIdeal.nD Cert.FfnLRefIdeal.τ).loc Cert.FfnLRefIdeal.main_arg6) = m ((c.tc : Thread Cert.FfnLIdeal.nD Cert.FfnLIdeal.τ).loc Cert.FfnLIdeal.main_arg6)) →
    ∃ (v0 : (c : Dev Cert.FfnLIdeal.nD) → Buf (Elt Ideal) ((c.tc : Thread Cert.FfnLIdeal.nD Cert.FfnLIdeal.τ).loc Cert.FfnLIdeal.main_v7_0)) (v1 : (c : Dev Cert.FfnLIdeal.nD) → Buf (Elt Ideal) ((c.tc : Thread Cert.FfnLIdeal.nD Cert.FfnLIdeal.τ).loc Cert.FfnLIdeal.main_v7_1)) (v2 : (c : Dev Cert.FfnLIdeal.nD) → Buf (Elt Ideal) ((c.tc : Thread Cert.FfnLIdeal.nD Cert.FfnLIdeal.τ).loc Cert.FfnLIdeal.main_v7_2)) (v3 : (c : Dev Cert.FfnLIdeal.nD) → Buf (Elt Ideal) ((c.tc : Thread Cert.FfnLIdeal.nD Cert.FfnLIdeal.τ).loc Cert.FfnLIdeal.main_v7_3)) (v4 : (c : Dev Cert.FfnLIdeal.nD) → Buf (Elt Ideal) ((c.tc : Thread Cert.FfnLIdeal.nD Cert.FfnLIdeal.τ).loc Cert.FfnLIdeal.main_v7_4)) (v5 : (c : Dev Cert.FfnLIdeal.nD) → Buf (Elt Ideal) ((c.tc : Thread Cert.FfnLIdeal.nD Cert.FfnLIdeal.τ).loc Cert.FfnLIdeal.main_v7_5)) (v6 : (c : Dev Cert.FfnLIdeal.nD) → Buf (Elt Ideal) ((c.tc : Thread Cert.FfnLIdeal.nD Cert.FfnLIdeal.τ).loc Cert.FfnLIdeal.main_v7_6)) (v7 : (c : Dev Cert.FfnLIdeal.nD) → Buf (Elt Ideal) ((c.tc : Thread Cert.FfnLIdeal.nD Cert.FfnLIdeal.τ).loc Cert.FfnLIdeal.main_v7_7)) (v8 : (c : Dev Cert.FfnLIdeal.nD) → Buf (Elt Ideal) ((c.tc : Thread Cert.FfnLIdeal.nD Cert.FfnLIdeal.τ).loc Cert.FfnLIdeal.main_v7_8)),
      θ_run (Cert.FfnLIdeal.defs (F := Ideal)) (onTc (τ := Cert.FfnLIdeal.τ) (Cert.FfnLIdeal.main (F := Ideal))) ⟨m, fun _ => 0, g⟩ (fun r => ∀ c : Dev Cert.FfnLIdeal.nD,
          r.2.mem ((c.tc : Thread Cert.FfnLIdeal.nD Cert.FfnLIdeal.τ).loc Cert.FfnLIdeal.main_v7_0) = v0 c
          ∧ r.2.mem ((c.tc : Thread Cert.FfnLIdeal.nD Cert.FfnLIdeal.τ).loc Cert.FfnLIdeal.main_v7_1) = v1 c
          ∧ r.2.mem ((c.tc : Thread Cert.FfnLIdeal.nD Cert.FfnLIdeal.τ).loc Cert.FfnLIdeal.main_v7_2) = v2 c
          ∧ r.2.mem ((c.tc : Thread Cert.FfnLIdeal.nD Cert.FfnLIdeal.τ).loc Cert.FfnLIdeal.main_v7_3) = v3 c
          ∧ r.2.mem ((c.tc : Thread Cert.FfnLIdeal.nD Cert.FfnLIdeal.τ).loc Cert.FfnLIdeal.main_v7_4) = v4 c
          ∧ r.2.mem ((c.tc : Thread Cert.FfnLIdeal.nD Cert.FfnLIdeal.τ).loc Cert.FfnLIdeal.main_v7_5) = v5 c
          ∧ r.2.mem ((c.tc : Thread Cert.FfnLIdeal.nD Cert.FfnLIdeal.τ).loc Cert.FfnLIdeal.main_v7_6) = v6 c
          ∧ r.2.mem ((c.tc : Thread Cert.FfnLIdeal.nD Cert.FfnLIdeal.τ).loc Cert.FfnLIdeal.main_v7_7) = v7 c
          ∧ r.2.mem ((c.tc : Thread Cert.FfnLIdeal.nD Cert.FfnLIdeal.τ).loc Cert.FfnLIdeal.main_v7_8) = v8 c
          ∧ r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
          ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
          ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
          ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
          ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
          ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
          ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6))
      ∧ θ_run (Cert.FfnLRefIdeal.defs (F := Ideal)) (onTc (τ := Cert.FfnLRefIdeal.τ) (Cert.FfnLRefIdeal.main (F := Ideal))) ⟨m', fun _ => 0, g'⟩ (fun r => ∀ c : Dev Cert.FfnLRefIdeal.nD,
          r.2.mem ((c.tc : Thread Cert.FfnLRefIdeal.nD Cert.FfnLRefIdeal.τ).loc Cert.FfnLRefIdeal.main_v77) = v0 c
          ∧ r.2.mem ((c.tc : Thread Cert.FfnLRefIdeal.nD Cert.FfnLRefIdeal.τ).loc Cert.FfnLRefIdeal.main_v78) = v1 c
          ∧ r.2.mem ((c.tc : Thread Cert.FfnLRefIdeal.nD Cert.FfnLRefIdeal.τ).loc Cert.FfnLRefIdeal.main_v79) = v2 c
          ∧ r.2.mem ((c.tc : Thread Cert.FfnLRefIdeal.nD Cert.FfnLRefIdeal.τ).loc Cert.FfnLRefIdeal.main_v80) = v3 c
          ∧ r.2.mem ((c.tc : Thread Cert.FfnLRefIdeal.nD Cert.FfnLRefIdeal.τ).loc Cert.FfnLRefIdeal.main_v23) = v4 c
          ∧ r.2.mem ((c.tc : Thread Cert.FfnLRefIdeal.nD Cert.FfnLRefIdeal.τ).loc Cert.FfnLRefIdeal.main_v7) = v5 c
          ∧ r.2.mem ((c.tc : Thread Cert.FfnLRefIdeal.nD Cert.FfnLRefIdeal.τ).loc Cert.FfnLRefIdeal.main_v24) = v6 c
          ∧ r.2.mem ((c.tc : Thread Cert.FfnLRefIdeal.nD Cert.FfnLRefIdeal.τ).loc Cert.FfnLRefIdeal.main_v25) = v7 c
          ∧ r.2.mem ((c.tc : Thread Cert.FfnLRefIdeal.nD Cert.FfnLRefIdeal.τ).loc Cert.FfnLRefIdeal.main_v26) = v8 c
          ∧ r.2.mem ((c.tc : Thread Cert.FfnLRefIdeal.nD Cert.FfnLRefIdeal.τ).loc Cert.FfnLRefIdeal.main_arg0) = m' ((c.tc : Thread Cert.FfnLRefIdeal.nD Cert.FfnLRefIdeal.τ).loc Cert.FfnLRefIdeal.main_arg0)
          ∧ r.2.mem ((c.tc : Thread Cert.FfnLRefIdeal.nD Cert.FfnLRefIdeal.τ).loc Cert.FfnLRefIdeal.main_arg1) = m' ((c.tc : Thread Cert.FfnLRefIdeal.nD Cert.FfnLRefIdeal.τ).loc Cert.FfnLRefIdeal.main_arg1)
          ∧ r.2.mem ((c.tc : Thread Cert.FfnLRefIdeal.nD Cert.FfnLRefIdeal.τ).loc Cert.FfnLRefIdeal.main_arg2) = m' ((c.tc : Thread Cert.FfnLRefIdeal.nD Cert.FfnLRefIdeal.τ).loc Cert.FfnLRefIdeal.main_arg2)
          ∧ r.2.mem ((c.tc : Thread Cert.FfnLRefIdeal.nD Cert.FfnLRefIdeal.τ).loc Cert.FfnLRefIdeal.main_arg3) = m' ((c.tc : Thread Cert.FfnLRefIdeal.nD Cert.FfnLRefIdeal.τ).loc Cert.FfnLRefIdeal.main_arg3)
          ∧ r.2.mem ((c.tc : Thread Cert.FfnLRefIdeal.nD Cert.FfnLRefIdeal.τ).loc Cert.FfnLRefIdeal.main_arg4) = m' ((c.tc : Thread Cert.FfnLRefIdeal.nD Cert.FfnLRefIdeal.τ).loc Cert.FfnLRefIdeal.main_arg4)
          ∧ r.2.mem ((c.tc : Thread Cert.FfnLRefIdeal.nD Cert.FfnLRefIdeal.τ).loc Cert.FfnLRefIdeal.main_arg5) = m' ((c.tc : Thread Cert.FfnLRefIdeal.nD Cert.FfnLRefIdeal.τ).loc Cert.FfnLRefIdeal.main_arg5)
          ∧ r.2.mem ((c.tc : Thread Cert.FfnLRefIdeal.nD Cert.FfnLRefIdeal.τ).loc Cert.FfnLRefIdeal.main_arg6) = m' ((c.tc : Thread Cert.FfnLRefIdeal.nD Cert.FfnLRefIdeal.τ).loc Cert.FfnLRefIdeal.main_arg6))

def Claim : Prop :=
  ∃ (hAttn : Cert.Attn.Facts) (hAttnIdeal : Cert.AttnIdeal.Facts) (hAttnRefIdeal : Cert.AttnRefIdeal.Facts) (hDown : Cert.Down.Facts) (hDownIdeal : Cert.DownIdeal.Facts) (hDownRefIdeal : Cert.DownRefIdeal.Facts) (hFfn : Cert.Ffn.Facts) (hFfnIdeal : Cert.FfnIdeal.Facts) (hFfnRefIdeal : Cert.FfnRefIdeal.Facts) (hFfnF : Cert.FfnF.Facts) (hFfnFIdeal : Cert.FfnFIdeal.Facts) (hFfnFRefIdeal : Cert.FfnFRefIdeal.Facts) (hAttnF : Cert.AttnF.Facts) (hAttnFIdeal : Cert.AttnFIdeal.Facts) (hAttnFRefIdeal : Cert.AttnFRefIdeal.Facts) (hCols : Cert.Cols.Facts) (hColsIdeal : Cert.ColsIdeal.Facts) (hColsRefIdeal : Cert.ColsRefIdeal.Facts) (hProj : Cert.Proj.Facts) (hProjIdeal : Cert.ProjIdeal.Facts) (hProjRefIdeal : Cert.ProjRefIdeal.Facts) (hFfnL : Cert.FfnL.Facts) (hFfnLIdeal : Cert.FfnLIdeal.Facts) (hFfnLRefIdeal : Cert.FfnLRefIdeal.Facts) (hPre_finite_scores : Cert.Pre_finite_scores.Facts) (hPre_finite_block : Cert.Pre_finite_block.Facts) (hPre_finite_gates : Cert.Pre_finite_gates.Facts) (hPre_finite_gates_l : Cert.Pre_finite_gates_l.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Down (hDown := hDown)
    ∧ quiescent_DownIdeal (hDownIdeal := hDownIdeal)
    ∧ quiescent_DownRefIdeal (hDownRefIdeal := hDownRefIdeal)
    ∧ quiescent_Ffn (hFfn := hFfn)
    ∧ quiescent_FfnIdeal (hFfnIdeal := hFfnIdeal)
    ∧ quiescent_FfnIdeal_pre_finite_block (hFfnIdeal := hFfnIdeal) (hPre_finite_block := hPre_finite_block)
    ∧ quiescent_FfnRefIdeal (hFfnRefIdeal := hFfnRefIdeal)
    ∧ quiescent_FfnRefIdeal_pre_finite_block (hFfnRefIdeal := hFfnRefIdeal) (hPre_finite_block := hPre_finite_block)
    ∧ quiescent_FfnF (hFfnF := hFfnF)
    ∧ quiescent_FfnFIdeal (hFfnFIdeal := hFfnFIdeal)
    ∧ quiescent_FfnFIdeal_pre_finite_gates (hFfnFIdeal := hFfnFIdeal) (hPre_finite_gates := hPre_finite_gates)
    ∧ quiescent_FfnFRefIdeal (hFfnFRefIdeal := hFfnFRefIdeal)
    ∧ quiescent_FfnFRefIdeal_pre_finite_gates (hFfnFRefIdeal := hFfnFRefIdeal) (hPre_finite_gates := hPre_finite_gates)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_Cols (hCols := hCols)
    ∧ quiescent_ColsIdeal (hColsIdeal := hColsIdeal)
    ∧ quiescent_ColsRefIdeal (hColsRefIdeal := hColsRefIdeal)
    ∧ quiescent_Proj (hProj := hProj)
    ∧ quiescent_ProjIdeal (hProjIdeal := hProjIdeal)
    ∧ quiescent_ProjRefIdeal (hProjRefIdeal := hProjRefIdeal)
    ∧ quiescent_FfnL (hFfnL := hFfnL)
    ∧ quiescent_FfnLIdeal (hFfnLIdeal := hFfnLIdeal)
    ∧ quiescent_FfnLIdeal_pre_finite_gates_l (hFfnLIdeal := hFfnLIdeal) (hPre_finite_gates_l := hPre_finite_gates_l)
    ∧ quiescent_FfnLRefIdeal (hFfnLRefIdeal := hFfnLRefIdeal)
    ∧ quiescent_FfnLRefIdeal_pre_finite_gates_l (hFfnLRefIdeal := hFfnLRefIdeal) (hPre_finite_gates_l := hPre_finite_gates_l)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Down_DownIdeal
    ∧ algebraic_DownIdeal_DownRefIdeal (hDownIdeal := hDownIdeal) (hDownRefIdeal := hDownRefIdeal)
    ∧ preserves_Ffn_FfnIdeal
    ∧ algebraic_FfnIdeal_FfnRefIdeal_pre_finite_block (hFfnIdeal := hFfnIdeal) (hFfnRefIdeal := hFfnRefIdeal) (hPre_finite_block := hPre_finite_block)
    ∧ preserves_FfnF_FfnFIdeal
    ∧ algebraic_FfnFIdeal_FfnFRefIdeal_pre_finite_gates (hFfnFIdeal := hFfnFIdeal) (hFfnFRefIdeal := hFfnFRefIdeal) (hPre_finite_gates := hPre_finite_gates)
    ∧ preserves_AttnF_AttnFIdeal
    ∧ algebraic_AttnFIdeal_AttnFRefIdeal (hAttnFIdeal := hAttnFIdeal) (hAttnFRefIdeal := hAttnFRefIdeal)
    ∧ preserves_Cols_ColsIdeal
    ∧ algebraic_ColsIdeal_ColsRefIdeal (hColsIdeal := hColsIdeal) (hColsRefIdeal := hColsRefIdeal)
    ∧ preserves_Proj_ProjIdeal
    ∧ algebraic_ProjIdeal_ProjRefIdeal (hProjIdeal := hProjIdeal) (hProjRefIdeal := hProjRefIdeal)
    ∧ preserves_FfnL_FfnLIdeal
    ∧ algebraic_FfnLIdeal_FfnLRefIdeal_pre_finite_gates_l (hFfnLIdeal := hFfnLIdeal) (hFfnLRefIdeal := hFfnLRefIdeal) (hPre_finite_gates_l := hPre_finite_gates_l)
-- ==== Pre_finite_block.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S1024 1 × IVec S1024x2816 1 × IVec S2816x1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg5
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_gates.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) : IVec S1024 1 × IVec S1024x2816 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite_gates_l.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) (main_arg6 : FVec F S1024 .f32) : IVec S1024 1 × IVec S1024x2816 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite_scores.lean ====
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S1024 .f32) (main_arg2 : FVec F S256x1024 .f32) (main_arg3 : FVec F S256x1024 .f32) (main_arg4 : FVec F S1024x1024 .f32) (main_arg5 : FVec F S1024x1024 .f32) (main_arg6 : FVec F S4096x1024 .f32) : IVec S1024 1 × IVec S256x1024 1 × IVec S1024x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024x1024 .f32 := Host.absf main_arg4
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Attn.lean ====
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512x1 : Shape := ⟨2, ![512, 1]⟩
abbrev S512x256 : Shape := ⟨2, ![512, 256]⟩
abbrev S256x256 : Shape := ⟨2, ![256, 256]⟩
abbrev S512 : Shape := ⟨1, ![512]⟩

abbrev nBuf : Space → Nat
  | .hbm => 37
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S4096x1024, .bf16⟩
  | .hbm, ⟨27, _⟩ => ⟨S256x1024, .bf16⟩
  | .hbm, ⟨28, _⟩ => ⟨S256x1024, .bf16⟩
  | .hbm, ⟨29, _⟩ => ⟨S1024x1024, .bf16⟩
  | .hbm, ⟨30, _⟩ => ⟨S1024x1024, .bf16⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S256x1024, .f32⟩
  | .hbm, ⟨35, _⟩ => ⟨S256x1024, .f32⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AttnRefIdeal.lean ====
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S1024, .f32⟩
  | 2 => ⟨S256x1024, .f32⟩
  | 3 => ⟨S256x1024, .f32⟩
  | 4 => ⟨S1024x1024, .f32⟩
  | 5 => ⟨S1024x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S4096x4x256, .f32⟩
  | 29 => ⟨S256x4x256, .f32⟩
  | 30 => ⟨S256x4x256, .f32⟩
  | 31 => ⟨S4x4096x256, .f32⟩
  | 32 => ⟨S_, .f32⟩
  | 33 => ⟨S4x4096x256, .f32⟩
  | 34 => ⟨S4x4096x256, .f32⟩
  | 35 => ⟨S_, .f32⟩
  | 36 => ⟨S4x4096, .f32⟩
  | 37 => ⟨S4x4096x1, .f32⟩
  | 38 => ⟨S4x4096x256, .f32⟩
  | 39 => ⟨S4x4096x256, .i1⟩
  | 40 => ⟨S4x4096x256, .f32⟩
  | 41 => ⟨S_, .f32⟩
  | 42 => ⟨S4x4096, .f32⟩
  | 43 => ⟨S_, .f32⟩
  | 44 => ⟨S4x4096, .f32⟩
  | 45 => ⟨S4x4096, .f32⟩
  | 46 => ⟨S_, .f32⟩
  | 47 => ⟨S4x4096, .f32⟩
  | 48 => ⟨S4x4096, .i1⟩
  | 49 => ⟨S_, .f32⟩
  | 50 => ⟨S4x4096, .f32⟩
  | 51 => ⟨S4x4096, .i1⟩
  | 52 => ⟨S_, .f32⟩
  | 53 => ⟨S4x4096, .f32⟩
  | 54 => ⟨S_, .f32⟩
  | 55 => ⟨S4x4096, .f32⟩
  | 56 => ⟨S_, .f32⟩
  | 57 => ⟨S4x4096, .f32⟩
  | 58 => ⟨S4x4096, .f32⟩
  | 59 => ⟨S4x4096, .f32⟩
  | 60 => ⟨S4x4096x1, .f32⟩
  | 61 => ⟨S4x4096x256, .f32⟩
  | 62 => ⟨S4x4096x256, .f32⟩
  | 63 => ⟨S4x4096x256, .f32⟩
  | 64 => ⟨S_, .f32⟩
  | 65 => ⟨S4x4096, .f32⟩
  | 66 => ⟨S4x4096x1, .f32⟩
  | 67 => ⟨S4x4096x256, .f32⟩
  | 68 => ⟨S4x4096x256, .f32⟩
  | 69 => ⟨S4x4096x1, .f32⟩
  | 70 => ⟨S_, .f32⟩
  | 71 => ⟨S4x4096x1, .f32⟩
  | 72 => ⟨S4x4096x1, .f32⟩
  | 73 => ⟨S4x256x4096, .f32⟩
  | 74 => ⟨S4096x4x256, .f32⟩
  | 75 => ⟨S4096x1024, .f32⟩
  | 76 => ⟨S4096x1024, .f32⟩
  | 77 => ⟨S4096x1024, .f32⟩
  | 78 => ⟨S4096x4x256, .f32⟩
  | 79 => ⟨S4x256x4096, .f32⟩
  | 80 => ⟨S4x4096x256, .f32⟩
  | 81 => ⟨S4x256x256, .f32⟩
  | 82 => ⟨S256x4x256, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x1, .f32⟩
  | 90 => ⟨S4x4096x256, .f32⟩
  | 91 => ⟨S4x4096x256, .f32⟩
  | 92 => ⟨S_, .f32⟩
  | 93 => ⟨S4x4096, .f32⟩
  | 94 => ⟨S4x4096x256, .f32⟩
  | 95 => ⟨S4x4096x256, .f32⟩
  | 96 => ⟨S4x4096x256, .f32⟩
  | 97 => ⟨S_, .f32⟩
  | 98 => ⟨S4x4096x256, .f32⟩
  | 99 => ⟨S4x4096x256, .f32⟩
  | 100 => ⟨S4x256x256, .f32⟩
  | 101 => ⟨S256x4x256, .f32⟩
  | 102 => ⟨S4x4096x256, .f32⟩
  | 103 => ⟨S4096x4x256, .f32⟩
  | 104 => ⟨S256x1024, .f32⟩
  | 105 => ⟨S256x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S_, .f32⟩
  | 115 => ⟨S1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .bf16⟩
  | 7 => ⟨S4096x1024, .bf16⟩
  | 8 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_cst_19 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_cst_21 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== Down.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x256 : Shape := ⟨2, ![4096, 256]⟩
abbrev S256x1024 : Shape := ⟨2, ![256, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x1024, .bf16⟩
  | .hbm, ⟨19, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S1024x2816, .f32⟩
  | .hbm, ⟨19, _⟩ => ⟨S2816x1024, .f32⟩
  | .hbm, ⟨20, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S256x1024 : Shape := ⟨2, ![256, 1024]⟩
abbrev S256x1 : Shape := ⟨2, ![256, 1]⟩
abbrev S256x2816 : Shape := ⟨2, ![256, 2816]⟩
abbrev S256x256 : Shape := ⟨2, ![256, 256]⟩
abbrev S256 : Shape := ⟨1, ![256]⟩

abbrev nBuf : Space → Nat
  | .hbm => 60
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .bf16⟩
  | .hbm, ⟨47, _⟩ => ⟨S1x1024, .f32⟩
  | .hbm, ⟨48, _⟩ => ⟨S4096x2816, .bf16⟩
  | .hbm, ⟨49, _⟩ => ⟨S4096x2816, .bf16⟩
  | .hbm, ⟨50, _⟩ => ⟨S1024x2816, .bf16⟩
  | .hbm, ⟨51, _⟩ => ⟨S2816x1024, .bf16⟩
  | .hbm, ⟨52, _⟩ => ⟨S1024x2816, .bf16⟩
  | .hbm, ⟨53, _⟩ => ⟨S2816x1024, .bf16⟩
  | .hbm, ⟨54, _⟩ => ⟨S2816x1024, .bf16⟩
  | .hbm, ⟨55, _⟩ => ⟨S4096x1024, .f32⟩
  | .hbm, ⟨56, _⟩ => ⟨S4096x1024, .bf16⟩
  | .hbm, ⟨57, _⟩ => ⟨S4096x2816, .bf16⟩
  | .hbm, ⟨58, _⟩ => ⟨S4096x2816, .bf16⟩
  | .hbm, ⟨59, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v30_3 : Ref sig .tc := ⟨.hbm, 58, rfl⟩
abbrev main_v30_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | .hbm, ⟨80, _⟩ => ⟨S4096x2816, .bf16⟩
  | .hbm, ⟨81, _⟩ => ⟨S4096x2816, .bf16⟩
  | .hbm, ⟨82, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== FfnF.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4096x1 : Shape := ⟨2, ![4096, 1]⟩
abbrev S4096x2816 : Shape := ⟨2, ![4096, 2816]⟩
abbrev S512x1024 : Shape := ⟨2, ![512, 1024]⟩
abbrev S512x1 : Shape := ⟨2, ![512, 1]⟩
abbrev S512x2816 : Shape := ⟨2, ![512, 2816]⟩
abbrev S512 : Shape := ⟨1, ![512]⟩
abbrev S256x1024 : Shape := ⟨2, ![256, 1024]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S2816x1024, .bf16⟩
  | .hbm, ⟨8, _⟩ => ⟨S1024x2816, .bf16⟩
  | .hbm, ⟨9, _⟩ => ⟨S2816x1024, .bf16⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S4096x1, .f32⟩
  | .hbm, ⟨14, _⟩ => ⟨S4096x2816, .bf16⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x2816, .bf16⟩
  | .hbm, ⟨49, _⟩ => ⟨S4096x2816, .bf16⟩
  | .hbm, ⟨50, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== AttnF.lean ====
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S4096x1 : Shape := ⟨2, ![4096, 1]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S4096x1, .f32⟩
  | .hbm, ⟨14, _⟩ => ⟨S4096x1024, .bf16⟩
  | .hbm, ⟨15, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnFRefIdeal.lean ====
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4x256, .f32⟩
  | .hbm, ⟨24, _⟩ => ⟨S256x4x256, .f32⟩
  | .hbm, ⟨25, _⟩ => ⟨S256x4x256, .f32⟩
  | .hbm, ⟨26, _⟩ => ⟨S4x4096x256, .f32⟩
  | .hbm, ⟨27, _⟩ => ⟨S_, .f32⟩
  | .hbm, ⟨28, _⟩ => ⟨S4x4096x256, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x256x4096, .f32⟩
  | .hbm, ⟨45, _⟩ => ⟨S4096x4x256, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Cols.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ColsRefIdeal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnL.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1 : Shape := ⟨2, ![1, 1]⟩
abbrev S4096x1 : Shape := ⟨2, ![4096, 1]⟩
abbrev S4096x2816 : Shape := ⟨2, ![4096, 2816]⟩
abbrev S512x1024 : Shape := ⟨2, ![512, 1024]⟩
abbrev S512x1 : Shape := ⟨2, ![512, 1]⟩
abbrev S512x2816 : Shape := ⟨2, ![512, 2816]⟩
abbrev S512 : Shape := ⟨1, ![512]⟩
abbrev S256x1024 : Shape := ⟨2, ![256, 1024]⟩
abbrev S512x256 : Shape := ⟨2, ![512, 256]⟩
abbrev S1 : Shape := ⟨1, ![1]⟩

abbrev nBuf : Space → Nat
  | .hbm => 23
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1024x2816, .bf16⟩
  | .hbm, ⟨9, _⟩ => ⟨S2816x1024, .bf16⟩
  | .hbm, ⟨10, _⟩ => ⟨S1024x2816, .bf16⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S1x1, .f32⟩
  | .hbm, ⟨18, _⟩ => ⟨S4096x1024, .bf16⟩
  | .hbm, ⟨19, _⟩ => ⟨S4096x1, .f32⟩
  | .hbm, ⟨20, _⟩ => ⟨S4096x2816, .bf16⟩
  | .hbm, ⟨21, _⟩ => ⟨S4096x2816, .bf16⟩
  | .hbm, ⟨22, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1, .f32⟩
  | .local _ .vmem, ⟨15, _⟩ => ⟨S512x1024, .bf16⟩
  | .local _ .vmem, ⟨16, _⟩ => ⟨S512x1024, .bf16⟩
  | .local _ .vmem, ⟨17, _⟩ => ⟨S512x1, .f32⟩
  | .local _ .vmem, ⟨18, _⟩ => ⟨S512x1, .f32⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnLRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x2816, .bf16⟩
  | .hbm, ⟨51, _⟩ => ⟨S4096x2816, .bf16⟩
  | .hbm, ⟨52, _⟩ => ⟨S4096x2816, .bf16⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .bf16⟩
  | .hbm, ⟨122, _⟩ => ⟨S1x1024, .f32⟩
  | .hbm, ⟨123, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v15_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v15_1 : Ref sig .tc := ⟨.hbm, 36, rfl⟩
abbrev main_v15_0 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_cst_12 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_16 : Ref sig .tc := ⟨.hbm, 102, rfl⟩
abbrev main_v63 : Ref sig .tc := ⟨.hbm, 103, rfl⟩
abbrev main_v64 : Ref sig .tc := ⟨.hbm, 104, rfl⟩
abbrev main_cst_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_v70 : Ref sig .tc := ⟨.hbm, 112, rfl⟩
abbrev main_v71 : Ref sig .tc := ⟨.hbm, 113, rfl⟩
abbrev main_cst_19 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]
-- ==== Proof.AttnHead.lean ====
module

public import proofs.«01_k».proof.Proof.Gen.AttnIdeal.Value
public import Idealize.ShloMosaic.Lib.Pipeline.ValueKit
public import Idealize.ShloMosaic.Lib.Pointwise

@[expose] public section

/-!
What the cross attention gradient's kernel computes for one head of one block of rows, entry by entry.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

/-- The scaled scores of one query with the keys. -/
def scoreF (q : Fin 256 → EReal) (K : Fin 256 → Fin 256 → EReal) (j : Fin 256) : EReal :=
  (∑ d, q d * K j d) * Ideal.ofBits .f32 0x3D800000#32

/-- The exponentials of the scores less the largest. -/
def expF (sc : Fin 256 → EReal) (j : Fin 256) : EReal :=
  Ideal.exp (sc j - (Finset.univ : Finset (Fin 256)).fold max (Ideal.ofBits .f32 0xFF800000#32) sc)

/-- The softmax weights. -/
def probF (sc : Fin 256 → EReal) (j : Fin 256) : EReal :=
  Ideal.div (expF sc j) (∑ l, expF sc l)

/-- The gradient of the weights. -/
def dprobF (o : Fin 256 → EReal) (V : Fin 256 → Fin 256 → EReal) (j : Fin 256) : EReal :=
  ∑ d, o d * V j d

/-- The gradient of the unscaled scores, given the weights and their gradient. -/
def dsF (p dp : Fin 256 → EReal) (j : Fin 256) : EReal :=
  p j * (dp j - ∑ l, dp l * p l) * Ideal.ofBits .f32 0x3D800000#32

section

variable (q o : Vec Ideal S512x256 .bf16) (K V : Vec Ideal S256x256 .bf16) (old : Vec Ideal S256x256 .f32)
variable (i : Fin 512) (j d : Fin 256)

/-- The weights of row `i`. -/
abbrev pR (q : Vec Ideal S512x256 .bf16) (K : Vec Ideal S256x256 .bf16) (i : Fin 512) : Fin 256 → EReal :=
  probF (scoreF (fun d => q (ix2 i d)) fun j d => K (ix2 j d))

/-- The gradient of the unscaled scores of row `i`. -/
abbrev dsR (q o : Vec Ideal S512x256 .bf16) (K V : Vec Ideal S256x256 .bf16) (i : Fin 512) : Fin 256 → EReal :=
  dsF (pR q K i) (dprobF (fun d => o (ix2 i d)) fun j d => V (ix2 j d))

/-- The largest entry of each row of a matrix. -/
theorem rowMax_apply {n0 n1 : Nat} (x : FVec Ideal ⟨2, ![n0, n1]⟩ .f32) (b : BitVec 32)
    (hr : (⟨2, ![n0, n1]⟩ : Shape).Reduces [1] ⟨1, ![n0]⟩) (hd) (hb) (i : Fin n0) :
    multiReduction .maximumf [1] ⟨1, ![n0]⟩ x b hr hd hb (ix1 i)
      = (Finset.univ : Finset (Fin n1)).fold max (Ideal.ofBits .f32 b) fun y => x (ix2 i y) := by
  rw [multiReduction_maximumf_eq_fold, Shape.Reduces.fold_fiber_r2_a1]
  rfl

theorem dq0 : k0_pay16 (k0_pay9 K) (k0_pay10 V) o (k0_pay11 q K) (ix2 i d)
    = ∑ j, dsR q o K V i j * K (ix2 j d) := by
  pointwise [k0_pay8, k0_pay9, k0_pay10, k0_pay11, k0_pay15, k0_pay16] <;> rfl

theorem dk0 : k0_pay17 (k0_pay8 q) (k0_pay10 V) o (k0_pay11 q K) old (ix2 j d)
    = old (ix2 j d) + ∑ i, dsR q o K V i j * q (ix2 i d) := by
  pointwise [k0_pay8, k0_pay9, k0_pay10, k0_pay11, k0_pay15, k0_pay17] <;> rfl

theorem dv0 : k0_pay14 o (k0_pay12 q K) (k0_pay13 old) (ix2 j d)
    = old (ix2 j d) + ∑ i, pR q K i j * o (ix2 i d) := by
  pointwise [k0_pay8, k0_pay9, k0_pay11, k0_pay12, k0_pay13, k0_pay14] <;> rfl

theorem dq1 : k0_pay26 (k0_pay19 K) (k0_pay20 V) o (k0_pay21 q K) (k0_pay22 q K) (ix2 i d)
    = ∑ j, dsR q o K V i j * K (ix2 j d) := by
  pointwise [k0_pay18, k0_pay19, k0_pay20, k0_pay21, k0_pay22, k0_pay23, k0_pay25, k0_pay26] <;> rfl

theorem dk1 : k0_pay27 (k0_pay18 q) (k0_pay20 V) o (k0_pay21 q K) (k0_pay22 q K) old (ix2 j d)
    = old (ix2 j d) + ∑ i, dsR q o K V i j * q (ix2 i d) := by
  pointwise [k0_pay18, k0_pay19, k0_pay20, k0_pay21, k0_pay22, k0_pay23, k0_pay25, k0_pay27] <;> rfl

theorem dv1 : k0_pay24 o (k0_pay21 q K) (k0_pay22 q K) old (ix2 j d)
    = old (ix2 j d) + ∑ i, pR q K i j * o (ix2 i d) := by
  pointwise [k0_pay18, k0_pay19, k0_pay21, k0_pay22, k0_pay23, k0_pay24] <;> rfl

theorem dq2 : k0_pay33 (k0_pay28 q) (k0_pay29 K) V o (ix2 i d)
    = ∑ j, dsR q o K V i j * K (ix2 j d) := by
  pointwise [k0_pay28, k0_pay29, k0_pay30, k0_pay32, k0_pay33] <;> rfl

theorem dk2 : k0_pay35 (k0_pay28 q) (k0_pay32 (k0_pay28 q) (k0_pay29 K) V o) (k0_pay34 old) (constant S256x256 .f32 0x00000000#32) (ix2 j d)
    = old (ix2 j d) + ∑ i, dsR q o K V i j * q (ix2 i d) := by
  pointwise [k0_pay28, k0_pay29, k0_pay30, k0_pay32, k0_pay34, k0_pay35] <;> rfl

theorem dv2 : k0_pay31 (k0_pay28 q) (k0_pay29 K) o old (ix2 j d)
    = old (ix2 j d) + ∑ i, pR q K i j * o (ix2 i d) := by
  pointwise [k0_pay28, k0_pay29, k0_pay30, k0_pay31] <;> rfl

theorem dq3 : k0_pay43 (k0_pay37 K) (k0_pay40 q K V o) k0_pay41 (ix2 i d)
    = ∑ j, dsR q o K V i j * K (ix2 j d) := by
  pointwise [k0_pay36, k0_pay37, k0_pay38, k0_pay40, k0_pay41, k0_pay42, k0_pay43] <;> rfl

theorem dk3 : k0_pay44 (k0_pay36 q) (k0_pay40 q K V o) k0_pay41 old (ix2 j d)
    = old (ix2 j d) + ∑ i, dsR q o K V i j * q (ix2 i d) := by
  pointwise [k0_pay36, k0_pay37, k0_pay38, k0_pay40, k0_pay41, k0_pay42, k0_pay44] <;> rfl

theorem dv3 : k0_pay39 q K o old (ix2 j d)
    = old (ix2 j d) + ∑ i, pR q K i j * o (ix2 i d) := by
  pointwise [k0_pay36, k0_pay37, k0_pay38, k0_pay39] <;> rfl

theorem do_apply (dxb : Vec Ideal S512x1024 .bf16) (wo : Vec Ideal S1024x1024 .bf16) (e : Fin 1024) :
    k0_pay7 dxb wo (ix2 i e) = ∑ y, dxb (ix2 i y) * wo (ix2 e y) := by
  pointwise [k0_pay7]

section

variable (dq : Vec Ideal S512x1024 .bf16) (wq : Vec Ideal S1024x1024 .bf16) (x dx : Vec Ideal S512x1024 .f32)
variable (r : Vec Ideal S512x1 .f32) (g acc : Vec Ideal S1x1024 .f32) (e : Fin 1024)

theorem dxn_apply : k0_pay45 dq wq (ix2 i e) = ∑ y, dq (ix2 i y) * wq (ix2 e y) := by
  pointwise [k0_pay45]

theorem dx_apply : k0_pay1 (k0_pay46 x r) (k0_pay47 dq wq g) dx (k0_pay48 r) (k0_pay49 dq wq x r g) (ix2 i e)
    = dx (ix2 i e) + r (ix2 i 0) * ((∑ y, dq (ix2 i y) * wq (ix2 e y)) * g (ix2 0 e) - x (ix2 i e) * r (ix2 i 0)
        * Ideal.div (∑ l, (∑ y, dq (ix2 i y) * wq (ix2 l y)) * g (ix2 0 l) * (x (ix2 i l) * r (ix2 i 0)))
            (Ideal.ofBits .f32 0x44800000#32)) := by
  pointwise [k0_pay1, k0_pay45, k0_pay46, k0_pay47, k0_pay48, k0_pay49]

theorem dgain_apply : k0_pay3 (k0_pay45 dq wq) (k0_pay46 x r) acc (ix2 0 e)
    = acc (ix2 0 e) + ∑ i, (∑ y, dq (ix2 i y) * wq (ix2 e y)) * (x (ix2 i e) * r (ix2 i 0)) := by
  pointwise [k0_pay3, k0_pay45, k0_pay46]

end

end

end Cert.AttnIdeal.Hand

end
-- ==== Proof.Cells.lean ====
module

public import Idealize.ShloMosaic.Lib.Pipeline.ValueKit
public import Idealize.ShloMosaic.Lib.Pointwise

@[expose] public section

/-! Indices of matrices, and what a buffer holds after stores that cover it. -/

noncomputable section

namespace Cert.Cells

open Idealize.ShloMosaic Idealize.ShloMosaic.TcCoe Idealize.SL.Sem

/-- An index of a matrix is a row and a column. -/
theorem ex_ix2 {n k : Nat} (x : (⟨2, ![n, k]⟩ : Shape).Idx) : ∃ (a : Fin n) (b : Fin k), x = ix2 a b :=
  ⟨x 0, x 1, by funext i; fin_cases i <;> rfl⟩

/-- Earlier stores do not show under later ones that cover. -/
theorem canon_drop {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, ⟨_, hp, _⟩ => absurd hp List.not_mem_nil
  | p :: L, y, hy => by
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem p _ hm, View.canon_cons_of_not_mem p _ hm]
      obtain ⟨q, hq, hq'⟩ := hy
      rcases List.mem_cons.mp hq with rfl | hq
      · exact absurd hq' hm
      · exact canon_drop L' L y ⟨q, hq, hq'⟩

/-- A load of the whole buffer reads what the stores left. -/
theorem readCov_canon {Val : EltTy → Type} {S : Shape} {e : EltTy} [∀ e, Nonempty (Val e)] {sig : RefSig} {κ : Kind} {sp : Space}
    (v : View sig κ sp S e) {off : Fin S.rank → Nat} (inb : ∀ a, off a + S.size a ≤ S.size a) (L : List (View.Piece Val S e))
    (h : ∀ a, off a = 0) :
    v.readCov L (Rect.unit off (no_index S.size) inb).toLoadRect = View.canon L := by
  have h0 : off = fun _ => 0 := funext h
  subst h0
  rw [View.readCov_eq_canon']
  funext j
  congr 1
  funext a
  exact Fin.ext (show 0 + 1 * (j a).val = (j a).val by omega)

end Cert.Cells

end
-- ==== Proof.AttnWin.lean ====
module

public import proofs.«01_k».proof.Proof.AttnHead
public import proofs.«01_k».proof.Proof.Cells
public import Idealize.ShloMosaic.Lib.Pipeline.ReadBack

@[expose] public section

/-!
What each grid point of the cross attention gradient's kernel leaves in its output blocks.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

export Cert.Cells (ex_ix2 canon_drop readCov_canon)

/-- The column `d` of head `h`. -/
def hc (h : Fin 4) (d : Fin 256) : Fin 1024 := ⟨h.val * 256 + d.val, by omega⟩

/-- The columns of head `h` of one row. -/
abbrev hrow {n : Nat} (X : (⟨2, ![n, 1024]⟩ : Shape).Idx → EReal) (h : Fin 4) (i : Fin n) (d : Fin 256) : EReal := X (ix2 i (hc h d))

/-- The weights of row `i` in head `h`. -/
abbrev pH {n : Nat} (Q : (⟨2, ![n, 1024]⟩ : Shape).Idx → EReal) (K : S256x1024.Idx → EReal) (h : Fin 4) (i : Fin n) : Fin 256 → EReal :=
  probF (scoreF (hrow Q h i) (hrow K h))

/-- The gradient of the unscaled scores of row `i` in head `h`. -/
abbrev dsH {n : Nat} (Q O : (⟨2, ![n, 1024]⟩ : Shape).Idx → EReal) (K V : S256x1024.Idx → EReal) (h : Fin 4) (i : Fin n) : Fin 256 → EReal :=
  dsF (pH Q K h i) (dprobF (hrow O h i) (hrow V h))

theorem split_col {r : Nat} {i a : Fin r} {n : Fin 4} {d b : Fin 256} (p : Fin 4) (e0 : i.val = a.val)
    (e1 : (hc n d).val = p.val * 256 + b.val) : i = a ∧ n = p ∧ d = b := by
  simp only [hc] at e1
  exact ⟨Fin.ext e0, Fin.ext (by omega), Fin.ext (by omega)⟩

/-- A column of head `n` lies in the rectangle of that head's columns. -/
theorem mem_head {r : Nat} (i : Fin r) (n : Fin 4) (d : Fin 256) (o : Nat) (ho : o = n.val * 256)
    (inb : ∀ a, (![0, o] : Fin 2 → Nat) a + (![r, 256] : Fin 2 → Nat) a ≤ (⟨2, ![r, 1024]⟩ : Shape).size a) :
    (ix2 i (hc n d) : (⟨2, ![r, 1024]⟩ : Shape).Idx) ∈ (Rect.unit (s := ⟨2, ![r, 1024]⟩) ![0, o] ![r, 256] inb).set := by
  rw [Rect.mem_set_unit]
  intro a
  match a with
  | 0 => exact ⟨Nat.zero_le _, show i.val < 0 + r by omega⟩
  | 1 => exact ⟨show o ≤ n.val * 256 + d.val by omega, show n.val * 256 + d.val < o + 256 by omega⟩

theorem hcol0 (d : Fin 256) (p : d.val < 1024) : (⟨d.val, p⟩ : Fin 1024) = hc 0 d := Fin.ext (show d.val = 0 * 256 + d.val by omega)
theorem hcol1 (d : Fin 256) (p : 256 + d.val < 1024) : (⟨256 + d.val, p⟩ : Fin 1024) = hc 1 d := Fin.ext (show 256 + d.val = 1 * 256 + d.val by omega)
theorem hcol2 (d : Fin 256) (p : 512 + d.val < 1024) : (⟨512 + d.val, p⟩ : Fin 1024) = hc 2 d := Fin.ext (show 512 + d.val = 2 * 256 + d.val by omega)
theorem hcol3 (d : Fin 256) (p : 768 + d.val < 1024) : (⟨768 + d.val, p⟩ : Fin 1024) = hc 3 d := Fin.ext (show 768 + d.val = 3 * 256 + d.val by omega)

variable (m : (ℓ : Loc nD τ sig) → Buf (Elt Ideal) ℓ) (c : Dev nD) (t : Fin cfg0.N)

/-- The gradient of the heads' outputs in block `t`. -/
abbrev oB : S512x1024.Idx → EReal := k0_pay7 (iblk m c 1 t) (iblk m c 9 t)

/-- What block `t` adds to the gradient of the keys. -/
def dkB (j : Fin 256) (n : Fin 4) (d : Fin 256) : EReal :=
  ∑ i, dsH (iblk m c 5 t) (oB m c t) (iblk m c 6 t) (iblk m c 7 t) n i j * hrow (iblk m c 5 t) n i d

/-- What block `t` adds to the gradient of the values. -/
def dvB (j : Fin 256) (n : Fin 4) (d : Fin 256) : EReal :=
  ∑ i, pH (iblk m c 5 t) (iblk m c 6 t) n i j * hrow (oB m c t) n i d

end Cert.AttnIdeal.Hand

end
-- ==== Proof.AttnRefStages.lean ====
module

public import proofs.«01_k».proof.Proof.Gen.AttnRefIdeal.Run
public import Idealize.ShloMosaic.Lib.Pipeline.ValueKit
public import Idealize.ShloMosaic.Lib.Pointwise

@[expose] public section

/-!
The reference of the cross attention's gradient, cut into the stages of its mathematics, and each result as a
composition of them.
-/

set_option maxRecDepth 16384

noncomputable section

namespace Cert.AttnRefIdeal.Hand

open Idealize.ShloMosaic Idealize.ShloMosaic.TcCoe Idealize.ShloMosaic.StableHlo Idealize.SL.Sem
open Cert.AttnRefIdeal Cert.AttnRefIdeal.Gen Cert.AttnRefIdeal.Value

/-- The mean square of each row plus the small constant. -/
def rVar (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The reciprocal root of the mean square of each row. -/
def rInv (var : FVec Ideal S4096x1 .f32) : FVec Ideal S4096x1 .f32 :=
  Host.rsqrt var

/-- The rows divided by their root mean square. -/
def rXhat (x : FVec Ideal S4096x1024 .f32) (inv : FVec Ideal S4096x1 .f32) : FVec Ideal S4096x1024 .f32 :=
  mulf x (broadcastInDim S4096x1024 ![0, 1] bcast_S4096x1_S4096x1024_0_1 inv)

/-- The queries. -/
def rQ (g : FVec Ideal S1024 .f32) (wq : FVec Ideal S1024x1024 .f32) (xh : FVec Ideal S4096x1024 .f32) : FVec Ideal S4096x1024 .f32 :=
  Host.dotGeneral dot_S4096x1024_S1024x1024_S4096x1024_1_0_0_1_n_n none (mulf xh (broadcastInDim S4096x1024 ![0, 1] bcast_S1x1024_S4096x1024_0_1 (broadcastInDim S1x1024 ![1] bcast_S1024_S1x1024_1 g))) wq

/-- The scaled scores, head by head. -/
def rScore (k : FVec Ideal S256x1024 .f32) (q : FVec Ideal S4096x1024 .f32) : FVec Ideal S4x4096x256 .f32 :=
  mulf (Host.dotGeneral dot_S4096x4x256_S256x4x256_S4x4096x256_2_2_0_0_1_1 none (shapeCast _ q shapeCasts_S4096x1024_S4096x4x256) (shapeCast _ k shapeCasts_S256x1024_S256x4x256)) (broadcastInDim S4x4096x256 ![] bcast_S_S4x4096x256 (constant S_ .f32 0x3D800000#32))

/-- The largest score of each row. -/
def rMax (sc : FVec Ideal S4x4096x256 .f32) : FVec Ideal S4x4096 .f32 :=
  Host.reduce FloatOps.maximumf sc (constant S_ .f32 0xFF800000#32) reducesTo_S4x4096x256_S4x4096_d2 h_S_

/-- The exponentials of the scores less the largest of their row. -/
def rExp (sc : FVec Ideal S4x4096x256 .f32) (mx : FVec Ideal S4x4096 .f32) : FVec Ideal S4x4096x256 .f32 :=
  Host.exp (subf sc (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) mx))))

/-- The sum of the exponentials of each row. -/
def rSum (e : FVec Ideal S4x4096x256 .f32) : FVec Ideal S4x4096 .f32 :=
  Host.reduceAdd e (constant S_ .f32 0x00000000#32) reducesTo_S4x4096x256_S4x4096_d2 h_S_

/-- The softmax weights. -/
def rProb (e : FVec Ideal S4x4096x256 .f32) (s : FVec Ideal S4x4096 .f32) : FVec Ideal S4x4096x256 .f32 :=
  Host.divf e (broadcastInDim S4x4096x256 ![0, 1, 2] bcast_S4x4096x1_S4x4096x256_0_1_2 (broadcastInDim S4x4096x1 ![0, 1] bcast_S4x4096_S4x4096x1_0_1 s))

/-- The gradient of the heads' outputs. -/
def rDo (wo : FVec Ideal S1024x1024 .f32) (dx : FVec Ideal S4096x1024 .f32) : FVec Ideal S4096x1024 .f32 :=
  Host.dotGeneral dot_S4096x1024_S1024x1024_S4096x1024_1_1_0_0_n_n none dx wo

/-- The gradient of the softmax weights. -/
def rDp (v : FVec Ideal S256x1024 .f32) (o : FVec Ideal S4096x1024 .f32) : FVec Ideal S4x4096x256 .f32 :=
  Host.dotGeneral dot_S4x256x4096_S256x4x256_S4x4096x256_1_2_2_0_0_1 none (transpose S4x256x4096 [1, 2, 0] (shapeCast _ o shapeCasts_S4096x1024_S4096x4x256) transposes_S4096x4x256_S4x256x4096_1_2_0) (shapeCast _ v shapeCasts_S256x1024_S256x4x256)

/-- The gradient of the unscaled scores. -/
def rDs (e : FVec Ideal S4x4096x256 .f32) (s : FVec Ideal S4x4096 .f32) (dp : FVec Ideal S4x4096x256 .f32) : FVec Ideal S4x4096x256 .f32 :=
  mulf (mulf (addf (Host.divf dp (broadcastInDim S4x4096x256 ![0, 1, 2] bcast_S4x4096x1_S4x4096x256_0_1_2 (broadcastInDim S4x4096x1 ![0, 1] bcast_S4x4096_S4x4096x1_0_1 s))) (broadcastInDim S4x4096x256 ![0, 1] bcast_S4x4096_S4x4096x256_0_1 (Host.reduceAdd (Host.negf (shapeCast _ (Host.reduceAdd (mulf (mulf dp (broadcastInDim S4x4096x256 ![0, 1, 2] bcast_S4x4096x1_S4x4096x256_0_1_2 (Host.divf (broadcastInDim S4x4096x1 ![] bcast_S_S4x4096x1 (constant S_ .f32 0x3F800000#32)) (mulf (broadcastInDim S4x4096x1 ![0, 1] bcast_S4x4096_S4x4096x1_0_1 s) (broadcastInDim S4x4096x1 ![0, 1] bcast_S4x4096_S4x4096x1_0_1 s))))) e) (constant S_ .f32 0x00000000#32) reducesTo_S4x4096x256_S4x4096_d2 h_S_) shapeCasts_S4x4096_S4x4096x1)) (constant S_ .f32 0x00000000#32) reducesTo_S4x4096x1_S4x4096_d2 h_S_))) e) (broadcastInDim S4x4096x256 ![] bcast_S_S4x4096x256 (constant S_ .f32 0x3D800000#32))

/-- The gradient of the values. -/
def rDv (p : FVec Ideal S4x4096x256 .f32) (o : FVec Ideal S4096x1024 .f32) : FVec Ideal S256x1024 .f32 :=
  shapeCast _ (transpose S256x4x256 [2, 0, 1] (Host.dotGeneral dot_S4x256x4096_S4x4096x256_S4x256x256_2_1_1_2_0_0 none (transpose S4x256x4096 [1, 2, 0] (shapeCast _ o shapeCasts_S4096x1024_S4096x4x256) transposes_S4096x4x256_S4x256x4096_1_2_0) p) transposes_S4x256x256_S256x4x256_2_0_1) shapeCasts_S256x4x256_S256x1024

/-- The gradient of the keys. -/
def rDk (q : FVec Ideal S4096x1024 .f32) (ds : FVec Ideal S4x4096x256 .f32) : FVec Ideal S256x1024 .f32 :=
  shapeCast _ (transpose S256x4x256 [1, 0, 2] (Host.dotGeneral dot_S4x4096x256_S4096x4x256_S4x256x256_1_0_2_2_0_1 none ds (shapeCast _ q shapeCasts_S4096x1024_S4096x4x256)) transposes_S4x256x256_S256x4x256_1_0_2) shapeCasts_S256x4x256_S256x1024

/-- The gradient of the queries. -/
def rDq (k : FVec Ideal S256x1024 .f32) (ds : FVec Ideal S4x4096x256 .f32) : FVec Ideal S4096x1024 .f32 :=
  shapeCast _ (transpose S4096x4x256 [1, 0, 2] (Host.dotGeneral dot_S4x4096x256_S256x4x256_S4x4096x256_2_0_1_2_0_1 none ds (shapeCast _ k shapeCasts_S256x1024_S256x4x256)) transposes_S4x4096x256_S4096x4x256_1_0_2) shapeCasts_S4096x4x256_S4096x1024

/-- The gradient of the normalised rows. -/
def rDxn (wq : FVec Ideal S1024x1024 .f32) (dq : FVec Ideal S4096x1024 .f32) : FVec Ideal S4096x1024 .f32 :=
  Host.dotGeneral dot_S4096x1024_S1024x1024_S4096x1024_1_1_0_0_n_n none dq wq

/-- The gradient of the rows before the gain. -/
def rW (g : FVec Ideal S1024 .f32) (dxn : FVec Ideal S4096x1024 .f32) : FVec Ideal S4096x1024 .f32 :=
  mulf dxn (broadcastInDim S4096x1024 ![0, 1] bcast_S1x1024_S4096x1024_0_1 (broadcastInDim S1x1024 ![1] bcast_S1024_S1x1024_1 g))

/-- The common factor of the two terms of the mean square's gradient. -/
def rC (x : FVec Ideal S4096x1024 .f32) (var : FVec Ideal S4096x1 .f32) (inv : FVec Ideal S4096x1 .f32) (w : FVec Ideal S4096x1024 .f32) : FVec Ideal S4096x1024 .f32 :=
  broadcastInDim S4096x1024 ![0] bcast_S4096_S4096x1024_0 (Host.reduceAdd (Host.divf (mulf (shapeCast _ (Host.reduceAdd (mulf x w) (constant S_ .f32 0x00000000#32) reducesTo_S4096x1024_S4096_d1 h_S_) shapeCasts_S4096_S4096x1) (mulf (broadcastInDim S4096x1 ![] bcast_S_S4096x1 (constant S_ .f32 0xBF000000#32)) (Host.divf inv var))) (broadcastInDim S4096x1 ![] bcast_S_S4096x1 (constant S_ .f32 0x44800000#32))) (constant S_ .f32 0x00000000#32) reducesTo_S4096x1_S4096_d1 h_S_)

/-- The gradient of the rows. -/
def rDx (x : FVec Ideal S4096x1024 .f32) (dx : FVec Ideal S4096x1024 .f32) (inv : FVec Ideal S4096x1 .f32) (w : FVec Ideal S4096x1024 .f32) (cf : FVec Ideal S4096x1024 .f32) : FVec Ideal S4096x1024 .f32 :=
  addf dx (addf (addf (mulf w (broadcastInDim S4096x1024 ![0, 1] bcast_S4096x1_S4096x1024_0_1 inv)) (mulf x cf)) (mulf cf x))

/-- The gradient of the gain. -/
def rDgain (xh : FVec Ideal S4096x1024 .f32) (dxn : FVec Ideal S4096x1024 .f32) : FVec Ideal S1x1024 .f32 :=
  shapeCast _ (Host.reduceAdd (shapeCast _ (Host.reduceAdd (mulf xh dxn) (constant S_ .f32 0x00000000#32) reducesTo_S4096x1024_S1024_d0 h_S_) shapeCasts_S1024_S1x1024) (constant S_ .f32 0x00000000#32) reducesTo_S1x1024_S1024_d0 h_S_) shapeCasts_S1024_S1x1024

/-! Each stage at an index. -/

/-- The column `d` of head `h`. -/
def hc (h : Fin 4) (d : Fin 256) : Fin 1024 := ⟨h.val * 256 + d.val, by omega⟩

theorem hc_div (h : Fin 4) (d : Fin 256) (p : (hc h d).val / 256 < 4) : (⟨(hc h d).val / 256, p⟩ : Fin 4) = h :=
  Fin.ext (by simp only [hc]; omega)

section

variable (x dx inv1024 q o dxn w cf xh : FVec Ideal S4096x1024 .f32) (var inv : FVec Ideal S4096x1 .f32) (g : FVec Ideal S1024 .f32)
variable (k v : FVec Ideal S256x1024 .f32) (wq wo : FVec Ideal S1024x1024 .f32)
variable (sc e dp ds p : FVec Ideal S4x4096x256 .f32) (sm mx : FVec Ideal S4x4096 .f32)
variable (s : Fin 4096) (h : Fin 4) (j : Fin 256) (d : Fin 1024)

theorem rVar_apply : rVar x (ix2 s 0) = Ideal.div (∑ e, x (ix2 s e) * x (ix2 s e)) (Ideal.ofBits .f32 0x44800000#32)
    + Ideal.ofBits .f32 0x358637BD#32 := by
  pointwise [rVar]

theorem rInv_apply : rInv var (ix2 s 0) = Ideal.rsqrt (var (ix2 s 0)) := by
  pointwise [rInv]

theorem rXhat_apply : rXhat x inv (ix2 s d) = x (ix2 s d) * inv (ix2 s 0) := by
  pointwise [rXhat]

theorem rQ_apply : rQ g wq xh (ix2 s d) = ∑ e, (xh (ix2 s e) * g (ix1 e)) * wq (ix2 e d) := by
  pointwise [rQ]

theorem rScore_apply : rScore k q (ix3 h s j)
    = (∑ e, q (ix2 s (hc h e)) * k (ix2 j (hc h e))) * Ideal.ofBits .f32 0x3D800000#32 := by
  pointwise [rScore]
  rfl

/-- The largest entry along the last axis of a rank-3 array. -/
theorem reduce_max_apply {n0 n1 n2 : Nat} {u : Shape} (x : FVec Ideal ⟨3, ![n0, n1, n2]⟩ .f32) (b : FVec Ideal u .f32)
    (hr : (⟨3, ![n0, n1, n2]⟩ : Shape).ReducesTo [2] ⟨2, ![n0, n1]⟩) (hu : 0 < u.numel) (i : Fin n0) (l : Fin n1) :
    Host.reduce FloatOps.maximumf x b hr hu (ix2 i l)
      = (Finset.univ : Finset (Fin n2)).fold max (b (Shape.Idx.first hu)) fun y => x (ix3 i l y) := by
  rw [Host.reduce_eq_fold, Shape.ReducesTo.fold_fiber_r3_a2]
  rfl

theorem rMax_apply : rMax sc (ix2 h s)
    = (Finset.univ : Finset (Fin 256)).fold max (Ideal.ofBits .f32 0xFF800000#32) fun y => sc (ix3 h s y) :=
  reduce_max_apply sc _ _ _ h s

theorem rExp_apply : rExp sc mx (ix3 h s j)
    = Ideal.exp (sc (ix3 h s j) - max (Ideal.ofBits .f32 0xFF800000#32) (mx (ix2 h s))) := by
  pointwise [rExp]

theorem rSum_apply : rSum e (ix2 h s) = ∑ y, e (ix3 h s y) := by
  pointwise [rSum]

theorem rProb_apply : rProb e sm (ix3 h s j) = Ideal.div (e (ix3 h s j)) (sm (ix2 h s)) := by
  pointwise [rProb]

theorem rDo_apply : rDo wo dx (ix2 s d) = ∑ y, dx (ix2 s y) * wo (ix2 d y) := by
  pointwise [rDo]

theorem rDp_apply : rDp v o (ix3 h s j) = ∑ y, o (ix2 s (hc h y)) * v (ix2 j (hc h y)) := by
  pointwise [rDp]
  rfl

theorem rDs_apply : rDs e sm dp (ix3 h s j)
    = (Ideal.div (dp (ix3 h s j)) (sm (ix2 h s))
        + -∑ y, dp (ix3 h s y) * Ideal.div 1 (sm (ix2 h s) * sm (ix2 h s)) * e (ix3 h s y))
      * e (ix3 h s j) * Ideal.ofBits .f32 0x3D800000#32 := by
  pointwise [rDs]
  rw [Fin.sum_univ_one]

theorem rDv_apply (y : Fin 256) : rDv p o (ix2 j (hc h y)) = ∑ s, o (ix2 s (hc h y)) * p (ix3 h s j) := by
  pointwise [rDv]
  simp only [hc_div]

theorem rDk_apply (y : Fin 256) : rDk q ds (ix2 j (hc h y)) = ∑ s, ds (ix3 h s j) * q (ix2 s (hc h y)) := by
  pointwise [rDk]
  simp only [hc_div]

theorem rDq_apply (y : Fin 256) : rDq k ds (ix2 s (hc h y)) = ∑ j, ds (ix3 h s j) * k (ix2 j (hc h y)) := by
  pointwise [rDq]
  simp only [hc_div]

theorem rDxn_apply : rDxn wq dxn (ix2 s d) = ∑ y, dxn (ix2 s y) * wq (ix2 d y) := by
  pointwise [rDxn]

theorem rW_apply : rW g dxn (ix2 s d) = dxn (ix2 s d) * g (ix1 d) := by
  pointwise [rW]

theorem rC_apply : rC x var inv w (ix2 s d)
    = Ideal.div ((∑ y, x (ix2 s y) * w (ix2 s y)) * (Ideal.ofBits .f32 0xBF000000#32 * Ideal.div (inv (ix2 s 0)) (var (ix2 s 0))))
      (Ideal.ofBits .f32 0x44800000#32) := by
  pointwise [rC]
  rw [Fin.sum_univ_one]

theorem rDx_apply : rDx x dx inv w cf (ix2 s d) = dx (ix2 s d) + ((w (ix2 s d) * inv (ix2 s 0) + x (ix2 s d) * cf (ix2 s d))
    + cf (ix2 s d) * x (ix2 s d)) := by
  pointwise [rDx]

theorem rDgain_apply : rDgain xh dxn (ix2 0 d) = ∑ s, xh (ix2 s d) * dxn (ix2 s d) := by
  pointwise [rDgain]
  rw [Fin.sum_univ_one]

end

variable (m : (ℓ : Loc nD τ sig) → Buf (Elt Ideal) ℓ) (c : Dev nD)

/-- The arrays the reference is given. -/
abbrev ax : FVec Ideal S4096x1024 .f32 := m ((c.tc : Thread nD τ).loc main_arg0)
abbrev ag : FVec Ideal S1024 .f32 := m ((c.tc : Thread nD τ).loc main_arg1)
abbrev ak : FVec Ideal S256x1024 .f32 := m ((c.tc : Thread nD τ).loc main_arg2)
abbrev av : FVec Ideal S256x1024 .f32 := m ((c.tc : Thread nD τ).loc main_arg3)
abbrev awq : FVec Ideal S1024x1024 .f32 := m ((c.tc : Thread nD τ).loc main_arg4)
abbrev awo : FVec Ideal S1024x1024 .f32 := m ((c.tc : Thread nD τ).loc main_arg5)
abbrev adx : FVec Ideal S4096x1024 .f32 := m ((c.tc : Thread nD τ).loc main_arg6)
/-- The stages at those arrays. -/
def cVar := rVar (ax m c)
def cInv := rInv (cVar m c)
def cXhat := rXhat (ax m c) (cInv m c)
def cQ := rQ (ag m c) (awq m c) (cXhat m c)
def cScore := rScore (ak m c) (cQ m c)
def cExp := rExp (cScore m c) (rMax (cScore m c))
def cSum := rSum (cExp m c)
def cDo := rDo (awo m c) (adx m c)
def cDp := rDp (av m c) (cDo m c)
def cDs := rDs (cExp m c) (cSum m c) (cDp m c)
def cDq := rDq (ak m c) (cDs m c)
def cDxn := rDxn (awq m c) (cDq m c)
def cW := rW (ag m c) (cDxn m c)

theorem res0 : res_main_v103 m c = rDx (ax m c) (adx m c) (cInv m c) (cW m c) (rC (ax m c) (cVar m c) (cInv m c) (cW m c)) := rfl
theorem res1 : res_main_v104 m c = truncf .bf16 (rDx (ax m c) (adx m c) (cInv m c) (cW m c) (rC (ax m c) (cVar m c) (cInv m c) (cW m c))) bitsLt_bf16_f32 := rfl
theorem res2 : res_main_v105 m c = truncf .bf16 (cDq m c) bitsLt_bf16_f32 := rfl
theorem res3 : res_main_v80 m c = rDk (cQ m c) (cDs m c) := rfl
theorem res4 : res_main_v79 m c = rDv (rProb (cExp m c) (cSum m c)) (cDo m c) := rfl
theorem res5 : res_main_v106 m c = rDgain (cXhat m c) (cDxn m c) := rfl

end Cert.AttnRefIdeal.Hand

end
-- ==== Proof.AttnBlocks.lean ====
module

public import proofs.«01_k».proof.Proof.AttnWin
public import proofs.«01_k».proof.Proof.AttnRefStages

@[expose] public section

/-! What the kernel's windows hold at a grid point, in terms of the arrays the program was given. Point `t` works on rows
`512 t … 512 t + 511`; the keys, the values, the two weights and the gain are whole at every point. -/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen
open Cert.AttnRefIdeal.Hand (rVar rInv rXhat rQ)

variable (m : (ℓ : Loc nD τ sig) → Buf (Elt Ideal) ℓ) (c : Dev nD)

/-- The program's arrays. -/
abbrev kx : FVec Ideal S4096x1024 .f32 := m ((c : Thread nD τ).loc main_arg0)
abbrev kg : FVec Ideal S1024 .f32 := m ((c : Thread nD τ).loc main_arg1)
abbrev kk : FVec Ideal S256x1024 .f32 := m ((c : Thread nD τ).loc main_arg2)
abbrev kv : FVec Ideal S256x1024 .f32 := m ((c : Thread nD τ).loc main_arg3)
abbrev kwq : FVec Ideal S1024x1024 .f32 := m ((c : Thread nD τ).loc main_arg4)
abbrev kwo : FVec Ideal S1024x1024 .f32 := m ((c : Thread nD τ).loc main_arg5)
abbrev kdx : FVec Ideal S4096x1024 .f32 := m ((c : Thread nD τ).loc main_arg6)

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![0, 0] ∧
    win0_7.index t = ![0, 0] ∧ win0_8.index t = ![0, 0] ∧ win0_9.index t = ![0, 0] ∧ win0_10.index t = ![t.val, 0] ∧
    win0_11.index t = ![t.val, 0] ∧ win0_12.index t = ![t.val, 0] ∧ win0_13.index t = ![0, 0] ∧ win0_14.index t = ![0, 0] ∧
    win0_15.index t = ![0, 0] ∧ t.val < 8 :=
  (by decide +kernel : ∀ t : Fin grid0.N, _)

/-- Row `i` of point `t`'s block. -/
def row (t : Fin cfg0.N) (i : Fin 512) : Fin 4096 := ⟨t.val * 512 + i.val, by have := (idx t).2.2.2.2.2.2.2.2.2.2.2.2.2.2.2.2; omega⟩

theorem row_val (t : Fin cfg0.N) (i : Fin 512) : (row t i).val = t.val * 512 + i.val := rfl

variable (t : Fin cfg0.N)

theorem blk0 (i : Fin 512) (e : Fin 1024) : iblk m c 0 t (ix2 i e) = kdx m c (ix2 (row t i) e) := by
  have a0 := row_val t i
  blk_ext [iblk, V, idx t]

theorem V14 : (V m c main_v14 : FVec Ideal S4096x1024 .bf16) = kdx m c := by entry_read; rfl
theorem V7 : (V m c main_v7 : FVec Ideal S4096x1 .f32) = rInv (rVar (kx m c)) := by entry_read; rfl
theorem V15 : (V m c main_v15 : FVec Ideal S1x1024 .f32) = shapeCast S1x1024 (kg m c) shapeCasts_S1024_S1x1024 := by entry_read; rfl
theorem V16 : (V m c main_v16 : FVec Ideal S4096x1024 .bf16) = rQ (kg m c) (kwq m c) (rXhat (kx m c) (rInv (rVar (kx m c)))) := by entry_read; rfl
theorem V17 : (V m c main_v17 : FVec Ideal S256x1024 .bf16) = kk m c := by entry_read; rfl
theorem V18 : (V m c main_v18 : FVec Ideal S256x1024 .bf16) = kv m c := by entry_read; rfl
theorem V19 : (V m c main_v19 : FVec Ideal S1024x1024 .bf16) = kwq m c := by entry_read; rfl
theorem V20 : (V m c main_v20 : FVec Ideal S1024x1024 .bf16) = kwo m c := by entry_read; rfl

theorem blk1 (i : Fin 512) (e : Fin 1024) : iblk m c 1 t (ix2 i e) = kdx m c (ix2 (row t i) e) := by
  have a0 := row_val t i
  rw [← V14 m c]
  blk_ext [iblk, idx t]
theorem blk2 (i : Fin 512) (e : Fin 1024) : iblk m c 2 t (ix2 i e) = kx m c (ix2 (row t i) e) := by
  have a0 := row_val t i
  blk_ext [iblk, V, idx t]
theorem blk3 (i : Fin 512) : iblk m c 3 t (ix2 i 0) = rInv (rVar (kx m c)) (ix2 (row t i) 0) := by
  have a0 := row_val t i
  rw [← V7 m c]
  blk_ext [iblk, idx t]
theorem blk4 (e : Fin 1024) : iblk m c 4 t (ix2 0 e) = kg m c (ix1 e) := by
  have a0 : iblk m c 4 t (ix2 0 e) = V m c main_v15 (ix2 0 e) := by blk_ext [iblk, idx t]
  rw [a0, V15 m c]
  pointwise
theorem blk5 (i : Fin 512) (e : Fin 1024) :
    iblk m c 5 t (ix2 i e) = rQ (kg m c) (kwq m c) (rXhat (kx m c) (rInv (rVar (kx m c)))) (ix2 (row t i) e) := by
  have a0 := row_val t i
  rw [← V16 m c]
  blk_ext [iblk, idx t]
theorem blk6 : iblk m c 6 t = kk m c := by rw [← V17 m c]; blk_ext! [iblk, idx t]
theorem blk7 : iblk m c 7 t = kv m c := by rw [← V18 m c]; blk_ext! [iblk, idx t]
theorem blk8 : iblk m c 8 t = kwq m c := by rw [← V19 m c]; blk_ext! [iblk, idx t]
theorem blk9 : iblk m c 9 t = kwo m c := by rw [← V20 m c]; blk_ext! [iblk, idx t]

end Cert.AttnIdeal.Hand
end
-- ==== Proof.Reals.lean ====
module

public import Idealize.ShloMosaic.Lib.Pointwise
public import Mathlib.Data.EReal.Operations
public import Mathlib.Data.EReal.Inv

@[expose] public section

/-! Arithmetic of the extended reals where some of the terms are real. -/

noncomputable section

namespace Cert.Reals

open Idealize.ShloMosaic

/-- The value is a real number. -/
def IsR (x : EReal) : Prop := ∃ r : ℝ, x = (r : EReal)

theorem IsR.coe (r : ℝ) : IsR (r : EReal) := ⟨r, rfl⟩
theorem IsR.zero : IsR 0 := ⟨0, by simp⟩
theorem IsR.one : IsR 1 := ⟨1, by simp⟩
theorem IsR.add {x y : EReal} : IsR x → IsR y → IsR (x + y) := fun ⟨a, ha⟩ ⟨b, hb⟩ => ⟨a + b, by simp [ha, hb]⟩
theorem IsR.mul {x y : EReal} : IsR x → IsR y → IsR (x * y) := fun ⟨a, ha⟩ ⟨b, hb⟩ => ⟨a * b, by simp [ha, hb]⟩
theorem IsR.neg {x : EReal} : IsR x → IsR (-x) := fun ⟨a, ha⟩ => ⟨-a, by simp [ha]⟩
theorem IsR.sub {x y : EReal} (hx : IsR x) (hy : IsR y) : IsR (x - y) := by
  rw [sub_eq_add_neg]; exact hx.add hy.neg
theorem IsR.max {x y : EReal} (hx : IsR x) (hy : IsR y) : IsR (max x y) := by
  rcases max_choice x y with h | h <;> rw [h] <;> assumption
theorem IsR.sum {ι : Type} (s : Finset ι) (f : ι → EReal) (h : ∀ i, IsR (f i)) : IsR (∑ i ∈ s, f i) := by
  classical
  induction s using Finset.induction with
  | empty => simpa using IsR.zero
  | insert a s ha ih => rw [Finset.sum_insert ha]; exact (h a).add ih
theorem IsR.ne_top {x : EReal} : IsR x → x ≠ ⊤ := fun ⟨_, h⟩ => h ▸ EReal.coe_ne_top _
theorem IsR.ne_bot {x : EReal} : IsR x → x ≠ ⊥ := fun ⟨_, h⟩ => h ▸ EReal.coe_ne_bot _

/-- Division by a real number other than zero. -/
theorem div_coe (x : EReal) {s : ℝ} (h : s ≠ 0) : Ideal.div x (s : EReal) = x * ((s⁻¹ : ℝ) : EReal) := by
  rw [Ideal.div, if_neg (by simpa using h), EReal.coe_inv]

/-- A sum of squares of reals is real and not negative. -/
theorem sum_sq {ι : Type} (s : Finset ι) (f : ι → EReal) (h : ∀ i, IsR (f i)) :
    ∃ r : ℝ, 0 ≤ r ∧ ∑ i ∈ s, f i * f i = (r : EReal) := by
  classical
  induction s using Finset.induction with
  | empty => exact ⟨0, le_refl _, by simp⟩
  | insert a s ha ih =>
    obtain ⟨r, h0, hr⟩ := ih
    obtain ⟨b, hb⟩ := h a
    exact ⟨b * b + r, add_nonneg (mul_self_nonneg b) h0, by rw [Finset.sum_insert ha, hr, hb]; simp⟩

/-- A nonempty sum of positive reals is a positive real. -/
theorem sum_pos {ι : Type} (s : Finset ι) (hs : s.Nonempty) (f : ι → EReal) (h : ∀ i, ∃ r : ℝ, 0 < r ∧ f i = (r : EReal)) :
    ∃ r : ℝ, 0 < r ∧ ∑ i ∈ s, f i = (r : EReal) := by
  classical
  induction hs using Finset.Nonempty.cons_induction with
  | singleton a => simpa using h a
  | cons a s ha hs ih =>
    obtain ⟨r, h0, hr⟩ := ih
    obtain ⟨b, hb0, hb⟩ := h a
    exact ⟨b + r, add_pos hb0 h0, by rw [Finset.sum_cons, hr, hb]; simp⟩

/-- A real factor that is not negative goes into a sum, whatever its terms are. -/
theorem mul_sum_coe {ι : Type} (s : Finset ι) (f : ι → EReal) {r : ℝ} (h : 0 ≤ r) :
    ∑ i ∈ s, (r : EReal) * f i = (r : EReal) * ∑ i ∈ s, f i := by
  classical
  induction s using Finset.induction with
  | empty => simp
  | insert a s ha ih =>
    rw [Finset.sum_insert ha, Finset.sum_insert ha, ih,
      EReal.left_distrib_of_nonneg_of_ne_top (by exact_mod_cast h) (EReal.coe_ne_top r)]

theorem mul_add_coe {r : ℝ} (h : 0 ≤ r) (a b : EReal) : (r : EReal) * (a + b) = r * a + r * b :=
  EReal.left_distrib_of_nonneg_of_ne_top (by exact_mod_cast h) (EReal.coe_ne_top r) a b

theorem mul_sub_coe {r : ℝ} (h : 0 ≤ r) (a b : EReal) : (r : EReal) * (a - b) = r * a - r * b := by
  rw [sub_eq_add_neg, sub_eq_add_neg, mul_add_coe h, mul_neg]

/-- Twice a real multiple. -/
theorem add_self_mul (a : ℝ) (S : EReal) : (a : EReal) * S + (a : EReal) * S = ((a + a : ℝ) : EReal) * S := by
  rcases le_total 0 a with h | h
  · have h' : (0 : EReal) ≤ a := by exact_mod_cast h
    rw [EReal.coe_add, EReal.right_distrib_of_nonneg h' h']
  · obtain ⟨b, rfl⟩ : ∃ b, a = -b := ⟨-a, by ring⟩
    have h1 : 0 ≤ b := by linarith
    have h' : (0 : EReal) ≤ b := by exact_mod_cast h1
    have e : (-b + -b : ℝ) = b * (-2) := by ring
    induction S with
    | bot =>
      rcases h1.eq_or_lt with rfl | h2
      · simp
      · rw [EReal.coe_mul_bot_of_neg (by linarith), EReal.coe_mul_bot_of_neg (by linarith)]; rfl
    | top =>
      rcases h1.eq_or_lt with rfl | h2
      · simp
      · rw [EReal.coe_mul_top_of_neg (by linarith), EReal.coe_mul_top_of_neg (by linarith)]; rfl
    | coe x => norm_cast; ring

theorem rsqrt_pos {v : ℝ} (h : 0 < v) : Ideal.rsqrt (v : EReal) = (((Real.sqrt v)⁻¹ : ℝ) : EReal) := by
  show (if v < 0 then (⊥ : EReal) else if v = 0 then ⊤ else _) = _
  rw [if_neg (by linarith), if_neg (by linarith)]

theorem exp_coe (r : ℝ) : Ideal.exp (r : EReal) = (Real.exp r : EReal) := rfl

theorem lit_neg_inf : Ideal.ofBits .f32 0xFF800000#32 = ⊥ := by simp [Ideal.ofBits, Ideal.ieee]
theorem lit_one : Ideal.ofBits .f32 0x3F800000#32 = 1 := by
  rw [← EReal.coe_one]
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_16th : Ideal.ofBits .f32 0x3D800000#32 = ((1/16 : ℝ) : EReal) := by
  simp [Ideal.ofBits, Ideal.ieee, -EReal.coe_mul]; norm_num
theorem lit_neg_half : Ideal.ofBits .f32 0xBF000000#32 = ((-1/2 : ℝ) : EReal) := by
  simp [Ideal.ofBits, Ideal.ieee, -EReal.coe_mul, -EReal.coe_neg]; norm_num
theorem lit_eps : ∃ r : ℝ, 0 < r ∧ Ideal.ofBits .f32 0x358637BD#32 = (r : EReal) :=
  ⟨8796093 / 8796093022208, by norm_num, by simp [Ideal.ofBits, Ideal.ieee, -EReal.coe_mul]; norm_num⟩

/-- The largest of a nonempty family of reals is real. -/
theorem fold_max_isR {ι : Type} (s : Finset ι) (hs : s.Nonempty) (f : ι → EReal) (h : ∀ i, IsR (f i)) :
    IsR (s.fold max ⊥ f) := by
  classical
  induction hs using Finset.Nonempty.cons_induction with
  | singleton a => simpa using h a
  | cons a s ha hs ih => rw [Finset.fold_cons]; exact (h a).max ih

/-- The starting value is already in a maximum. -/
theorem max_fold_max {ι : Type} (s : Finset ι) (f : ι → EReal) (b : EReal) : max b (s.fold max b f) = s.fold max b f :=
  max_eq_right (Finset.le_fold_max b |>.mpr (Or.inl le_rfl))

/-- The mean square of reals with the norm's small constant added is a positive real. -/
theorem meansq_pos {ι : Type} (s : Finset ι) (f : ι → EReal) (h : ∀ i, IsR (f i)) :
    ∃ v : ℝ, 0 < v ∧ Ideal.div (∑ i ∈ s, f i * f i) (Ideal.ofBits .f32 0x44800000#32) + Ideal.ofBits .f32 0x358637BD#32 = (v : EReal) := by
  obtain ⟨a, ha, e⟩ := sum_sq s f h
  obtain ⟨p, hp, ep⟩ := lit_eps
  refine ⟨a * (1024 : ℝ)⁻¹ + p, by positivity, ?_⟩
  rw [e, ep, lit_1024, div_coe _ (by norm_num)]
  simp

/-- The gradient through a row of softmax, written with the weights `e / σ` and written as the derivative of the quotient. -/
theorem softmax_grad {n : Nat} (e dp : Fin n → EReal) (f : Fin n → ℝ) (he : ∀ j, e j = (f j : EReal)) {s : ℝ} (hs : 0 < s)
    (σ : EReal) (hσ : σ = (s : EReal)) (k : EReal) (j : Fin n) :
    Ideal.div (e j) σ * (dp j - ∑ l, dp l * Ideal.div (e l) σ) * k
      = (Ideal.div (dp j) σ + -∑ l, dp l * Ideal.div 1 (σ * σ) * e l) * e j * k := by
  subst hσ
  have hi : 0 ≤ s⁻¹ := by positivity
  have h1 : ∀ l, dp l * Ideal.div (e l) (s : EReal) = ((s⁻¹ : ℝ) : EReal) * (dp l * e l) := fun l => by
    rw [div_coe _ hs.ne', ← mul_assoc, mul_comm]
  have h2 : ∀ l, dp l * Ideal.div 1 ((s : EReal) * s) * e l = ((s⁻¹ * s⁻¹ : ℝ) : EReal) * (dp l * e l) := fun l => by
    rw [← EReal.coe_mul, div_coe _ (mul_pos hs hs).ne', one_mul, mul_inv, mul_comm (dp l), mul_assoc]
  rw [Finset.sum_congr rfl fun l _ => h1 l, Finset.sum_congr rfl fun l _ => h2 l, mul_sum_coe _ _ hi,
    mul_sum_coe _ _ (mul_nonneg hi hi), div_coe _ hs.ne', div_coe _ hs.ne']
  generalize (∑ l, dp l * e l) = T
  congr 1
  rw [mul_comm (e j), mul_assoc, mul_comm (e j), ← mul_assoc]
  congr 1
  rw [mul_sub_coe hi, sub_eq_add_neg, EReal.coe_mul, mul_assoc, mul_comm (dp j)]

/-- The gradient through a row of the norm's scaling, written with the normalised row and written as the derivative. -/
theorem rms_grad {n : Nat} (x w : Fin n → EReal) (y : Fin n → ℝ) (hx : ∀ j, x j = (y j : EReal)) {v : ℝ} (hv : 0 < v)
    (dx r : EReal) (hr : r = (((Real.sqrt v)⁻¹ : ℝ) : EReal)) (j : Fin n) :
    dx + r * (w j - x j * r * Ideal.div (∑ l, w l * (x l * r)) (Ideal.ofBits .f32 0x44800000#32))
      = dx + ((w j * r
        + x j * Ideal.div ((∑ l, x l * w l) * (Ideal.ofBits .f32 0xBF000000#32 * Ideal.div r (v : EReal))) (Ideal.ofBits .f32 0x44800000#32))
        + Ideal.div ((∑ l, x l * w l) * (Ideal.ofBits .f32 0xBF000000#32 * Ideal.div r (v : EReal))) (Ideal.ofBits .f32 0x44800000#32) * x j) := by
  have hq : 0 < (Real.sqrt v)⁻¹ := inv_pos.mpr (Real.sqrt_pos.mpr hv)
  have hvr : v⁻¹ = (Real.sqrt v)⁻¹ * (Real.sqrt v)⁻¹ := by
    rw [← mul_inv, Real.mul_self_sqrt hv.le]
  generalize (Real.sqrt v)⁻¹ = q at hr hq hvr
  subst hr
  have h1 : ∀ l, w l * (x l * (q : EReal)) = (q : EReal) * (x l * w l) := fun l => by
    rw [← mul_assoc, mul_comm, mul_comm (w l)]
  rw [Finset.sum_congr rfl fun l _ => h1 l, mul_sum_coe _ _ hq.le, lit_1024, lit_neg_half, div_coe _ (by norm_num),
    div_coe _ (by norm_num), div_coe _ hv.ne', hvr, hx j]
  generalize (∑ l, x l * w l) = T
  congr 1
  rw [add_assoc, mul_sub_coe hq.le, sub_eq_add_neg, mul_comm (w j)]
  congr 1
  have e1 : ((y j : ℝ) : EReal) * (T * (((-1/2 : ℝ) : EReal) * ((q : EReal) * ((q * q : ℝ) : EReal))) * (((1024:ℝ)⁻¹ : ℝ) : EReal))
      = ((y j * (-1/2) * (q * (q * q)) * (1024:ℝ)⁻¹ : ℝ) : EReal) * T := by
    push_cast
    ac_rfl
  rw [mul_comm _ ((y j : ℝ) : EReal), e1, add_self_mul]
  have e2 : (q : EReal) * ((y j : EReal) * (q : EReal) * ((q : EReal) * T * (((1024:ℝ)⁻¹ : ℝ) : EReal)))
      = ((y j * (q * (q * q)) * (1024:ℝ)⁻¹ : ℝ) : EReal) * T := by
    push_cast
    ac_rfl
  rw [e2, ← EReal.neg_mul, ← EReal.coe_neg]
  congr 2
  ring

/-- The mean square of a row with the norm's small constant added. -/
def meansq {ι : Type} [Fintype ι] (f : ι → EReal) : EReal :=
  Ideal.div (∑ i, f i * f i) (Ideal.ofBits .f32 0x44800000#32) + Ideal.ofBits .f32 0x358637BD#32

theorem sq_nonneg (a : EReal) : 0 ≤ a * a := by
  induction a with
  | bot => simp
  | top => simp
  | coe a => exact_mod_cast mul_self_nonneg a

theorem sq_top {a : EReal} (h : ¬IsR a) : a * a = ⊤ := by
  induction a with
  | bot => simp
  | top => simp
  | coe a => exact absurd (IsR.coe a) h

/-- A row is real, or its mean square is infinite. -/
theorem meansq_cases {ι : Type} [Fintype ι] (f : ι → EReal) :
    (∀ i, IsR (f i)) ∧ (∃ v : ℝ, 0 < v ∧ meansq f = (v : EReal)) ∨ meansq f = ⊤ := by
  classical
  by_cases h : ∀ i, IsR (f i)
  · exact .inl ⟨h, meansq_pos Finset.univ f h⟩
  · right
    obtain ⟨i, hi⟩ := not_forall.mp h
    have h1 : ∑ i, f i * f i = ⊤ := by
      rw [← Finset.add_sum_erase _ _ (Finset.mem_univ i), sq_top hi]
      exact EReal.top_add_of_ne_bot (ne_bot_of_le_ne_bot (by simp) (Finset.sum_nonneg fun i _ => sq_nonneg (f i)))
    obtain ⟨p, hp, ep⟩ := lit_eps
    rw [meansq, h1, ep, lit_1024, div_coe _ (by norm_num), EReal.top_mul_coe_of_pos (by norm_num)]
    exact EReal.top_add_coe p

theorem rsqrt_top : Ideal.rsqrt ⊤ = 0 := rfl

/-- A normalised row is real: an infinite row is scaled by 0. -/
theorem xhat_isR {ι : Type} [Fintype ι] (f : ι → EReal) (i : ι) : IsR (f i * Ideal.rsqrt (meansq f)) := by
  obtain ⟨h, v, v0, ev⟩ | h := meansq_cases f
  · rw [ev, rsqrt_pos v0]
    exact (h i).mul (IsR.coe _)
  · rw [h, rsqrt_top, mul_zero]
    exact IsR.zero

/-- The gradient through a row of the norm's scaling, for any row. -/
theorem rms_grad_any {n : Nat} (x w : Fin n → EReal) (dx : EReal) (j : Fin n) :
    dx + Ideal.rsqrt (meansq x) * (w j - x j * Ideal.rsqrt (meansq x)
        * Ideal.div (∑ l, w l * (x l * Ideal.rsqrt (meansq x))) (Ideal.ofBits .f32 0x44800000#32))
      = dx + ((w j * Ideal.rsqrt (meansq x)
        + x j * Ideal.div ((∑ l, x l * w l) * (Ideal.ofBits .f32 0xBF000000#32 * Ideal.div (Ideal.rsqrt (meansq x)) (meansq x))) (Ideal.ofBits .f32 0x44800000#32))
        + Ideal.div ((∑ l, x l * w l) * (Ideal.ofBits .f32 0xBF000000#32 * Ideal.div (Ideal.rsqrt (meansq x)) (meansq x))) (Ideal.ofBits .f32 0x44800000#32) * x j) := by
  obtain ⟨h, v, v0, ev⟩ | h := meansq_cases x
  · choose y ey using h
    rw [ev]
    exact rms_grad x w y ey v0 dx _ (rsqrt_pos v0) j
  · have h0 : Ideal.div 0 ⊤ = 0 := by
      rw [Ideal.div, if_neg (by simp), zero_mul]
    have h1 : Ideal.div 0 (Ideal.ofBits .f32 0x44800000#32) = 0 := by
      rw [lit_1024, div_coe _ (by norm_num), zero_mul]
    rw [h, rsqrt_top, h0]
    simp only [mul_zero, zero_mul, h1, add_zero]

/-- A value whose magnitude is below infinity is real. -/
theorem isR_of_abs_lt {x : EReal} (h : Ideal.cmp .olt (max x (-x)) (Ideal.ofBits .f32 0x7F800000#32) = 1#1) : IsR x := by
  have e : Ideal.ofBits .f32 0x7F800000#32 = ⊤ := by simp [Ideal.ofBits, Ideal.ieee]
  rw [e] at h
  have h2 : max x (-x) < ⊤ := by
    by_contra hc
    simp [Ideal.cmp, hc] at h
  induction x with
  | bot => simp at h2
  | top => simp at h2
  | coe r => exact IsR.coe r

end Cert.Reals
end
-- ==== Proof.AttnMath.lean ====
module

public import proofs.«01_k».proof.Proof.AttnBlocks
public import proofs.«01_k».proof.Proof.Reals

@[expose] public section

/-! Row by row, what the kernel computes in a head is what the reference's stages hold, where the scores are real. -/

set_option maxRecDepth 16384

noncomputable section

namespace Cert.AttnIdeal.Hand

open Idealize.ShloMosaic Idealize.ShloMosaic.TcCoe Idealize.SL.Sem
open Cert.Reals
open Cert.AttnRefIdeal.Hand (rVar rInv rXhat rQ rScore rMax rExp rSum rProb rDo rDp rDs rDv rDk rDq rDxn rW rC rDx rDgain rVar_apply
  rInv_apply rXhat_apply rQ_apply rScore_apply rMax_apply rExp_apply rSum_apply rProb_apply rDo_apply rDp_apply rDs_apply rDv_apply
  rDk_apply rDq_apply rDxn_apply rW_apply rC_apply rDx_apply rDgain_apply)

theorem hc_eq : Cert.AttnRefIdeal.Hand.hc = hc := rfl

variable (x : FVec Ideal S4096x1024 .f32) (g : FVec Ideal S1024 .f32) (k v : FVec Ideal S256x1024 .f32)
  (wq wo : FVec Ideal S1024x1024 .f32) (dx q o : FVec Ideal S4096x1024 .f32)

theorem score_eq (h : Fin 4) (s : Fin 4096) (j : Fin 256) :
    rScore k q (ix3 h s j) = scoreF (hrow q h s) (hrow k h) j := rScore_apply ..

theorem exp_eq (h : Fin 4) (s : Fin 4096) (j : Fin 256) :
    rExp (rScore k q) (rMax (rScore k q)) (ix3 h s j) = expF (scoreF (hrow q h s) (hrow k h)) j := by
  rw [rExp_apply, rMax_apply, max_fold_max]
  simp only [score_eq]
  rfl

theorem sum_eq (h : Fin 4) (s : Fin 4096) :
    rSum (rExp (rScore k q) (rMax (rScore k q))) (ix2 h s) = ∑ l, expF (scoreF (hrow q h s) (hrow k h)) l := by
  rw [rSum_apply]
  exact Finset.sum_congr rfl fun l _ => exp_eq k q h s l

theorem prob_eq (h : Fin 4) (s : Fin 4096) (j : Fin 256) :
    rProb (rExp (rScore k q) (rMax (rScore k q))) (rSum (rExp (rScore k q) (rMax (rScore k q)))) (ix3 h s j) = pH q k h s j := by
  rw [rProb_apply, exp_eq, sum_eq]
  rfl

variable {k q}

theorem score_real (hk : ∀ i, IsR (k i)) (hq : ∀ i, IsR (q i)) (h : Fin 4) (s : Fin 4096) (j : Fin 256) :
    IsR (scoreF (hrow q h s) (hrow k h) j) :=
  (IsR.sum _ _ fun d => (hq _).mul (hk _)).mul (lit_16th ▸ IsR.coe _)

theorem exp_real (hk : ∀ i, IsR (k i)) (hq : ∀ i, IsR (q i)) (h : Fin 4) (s : Fin 4096) (j : Fin 256) :
    ∃ r : ℝ, 0 < r ∧ expF (scoreF (hrow q h s) (hrow k h)) j = (r : EReal) := by
  have a0 := fold_max_isR Finset.univ ⟨(0 : Fin 256), Finset.mem_univ _⟩ (scoreF (hrow q h s) (hrow k h)) (score_real hk hq h s)
  obtain ⟨a, ea⟩ := (score_real hk hq h s j).sub a0
  refine ⟨Real.exp a, Real.exp_pos a, ?_⟩
  rw [expF, lit_neg_inf, ea, exp_coe]

theorem ds_eq (hk : ∀ i, IsR (k i)) (hq : ∀ i, IsR (q i)) (h : Fin 4) (s : Fin 4096) (j : Fin 256) :
    dsH q o k v h s j = rDs (rExp (rScore k q) (rMax (rScore k q))) (rSum (rExp (rScore k q) (rMax (rScore k q)))) (rDp v o) (ix3 h s j) := by
  rw [rDs_apply, exp_eq, sum_eq]
  simp only [exp_eq, rDp_apply, hc_eq]
  have a0 := exp_real hk hq h s
  choose f f0 ef using a0
  obtain ⟨σ, s0, es⟩ := sum_pos Finset.univ ⟨(0 : Fin 256), Finset.mem_univ _⟩ (expF (scoreF (hrow q h s) (hrow k h))) (exp_real hk hq h s)
  exact softmax_grad (expF (scoreF (hrow q h s) (hrow k h))) (dprobF (hrow o h s) (hrow v h)) f ef s0 _ es _ j

/-- The queries are real where the gain and the weight are. -/
theorem q_real (hg : ∀ i, IsR (g i)) (hw : ∀ i, IsR (wq i)) (i : S4096x1024.Idx) :
    IsR (rQ g wq (rXhat x (rInv (rVar x))) i) := by
  obtain ⟨s, e, rfl⟩ := ex_ix2 i
  rw [rQ_apply]
  refine IsR.sum _ _ fun l => ((?_ : IsR _).mul (hg _)).mul (hw _)
  rw [rXhat_apply, rInv_apply, rVar_apply]
  exact xhat_isR (fun e => x (ix2 s e)) l

/-- The last stage of the gradient of the input. -/
theorem dx_eq (dq : FVec Ideal S4096x1024 .f32) (s : Fin 4096) (e : Fin 1024) :
    dx (ix2 s e) + rInv (rVar x) (ix2 s 0) * ((∑ y, dq (ix2 s y) * wq (ix2 e y)) * g (ix1 e) - x (ix2 s e) * rInv (rVar x) (ix2 s 0)
        * Ideal.div (∑ l, (∑ y, dq (ix2 s y) * wq (ix2 l y)) * g (ix1 l) * (x (ix2 s l) * rInv (rVar x) (ix2 s 0))) (Ideal.ofBits .f32 0x44800000#32))
      = rDx x dx (rInv (rVar x)) (rW g (rDxn wq dq)) (rC x (rVar x) (rInv (rVar x)) (rW g (rDxn wq dq))) (ix2 s e) := by
  rw [rDx_apply, rC_apply]
  simp only [rW_apply, rDxn_apply]
  rw [rInv_apply, rVar_apply]
  exact rms_grad_any (fun l => x (ix2 s l)) (fun l => (∑ y, dq (ix2 s y) * wq (ix2 l y)) * g (ix1 l)) _ e

end Cert.AttnIdeal.Hand
end
-- ==== Proof.AttnWinQ.lean ====
module

public import proofs.«01_k».proof.Proof.AttnWin
public import Idealize.ShloMosaic.Lib.Pipeline.ReadBack

@[expose] public section

/-!
What each grid point of the cross attention gradient's kernel leaves in its output blocks.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ) (c : Dev nD) (t : Fin cfg0.N)

theorem dq_at_A (i : Fin 512) (n : Fin 4) (d : Fin 256) (a0 : t.val % 8 = 0) :
    (outsAt0 m c t.val t.isLt).2.2.1 (ix2 i (hc n d)) = ∑ j, dsH (iblk m c 5 t) (oB m c t) (iblk m c 6 t) (iblk m c 7 t) n i j * hrow (iblk m c 6 t) n j d := by
  rw [outsAt0_A m c t a0]
  frame_open
  simp (disch := decide) only [↓ View.readCov_skip, ↓ View.readCov_fill]
  frame_out
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dq3 _ _ _ _ _ _).trans ?_
    pointwise [dsR, pR]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dq2 _ _ _ _ _ _).trans ?_
    pointwise [dsR, pR]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dq1 _ _ _ _ _ _).trans ?_
    pointwise [dsR, pR]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dq0 _ _ _ _ _ _).trans ?_
    pointwise [dsR, pR]
    simp only [hcol0] <;> rfl

theorem dq_at_B (i : Fin 512) (n : Fin 4) (d : Fin 256) (a0 : ¬t.val % 8 = 0) :
    (outsAt0 m c t.val t.isLt).2.2.1 (ix2 i (hc n d)) = ∑ j, dsH (iblk m c 5 t) (oB m c t) (iblk m c 6 t) (iblk m c 7 t) n i j * hrow (iblk m c 6 t) n j d := by
  rw [outsAt0_B m c t a0]
  frame_open
  simp (disch := decide) only [↓ View.readCov_skip, ↓ View.readCov_fill]
  frame_out
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dq3 _ _ _ _ _ _).trans ?_
    pointwise [dsR, pR]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dq2 _ _ _ _ _ _).trans ?_
    pointwise [dsR, pR]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dq1 _ _ _ _ _ _).trans ?_
    pointwise [dsR, pR]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dq0 _ _ _ _ _ _).trans ?_
    pointwise [dsR, pR]
    simp only [hcol0] <;> rfl

end Cert.AttnIdeal.Hand

end
-- ==== Proof.AttnWinK.lean ====
module

public import proofs.«01_k».proof.Proof.AttnWin
public import Idealize.ShloMosaic.Lib.Pipeline.ReadBack

@[expose] public section

/-!
What each grid point of the cross attention gradient's kernel leaves in its output blocks.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ) (c : Dev nD) (t : Fin cfg0.N)

theorem dk_at_A (i : Fin 256) (n : Fin 4) (d : Fin 256) (a0 : t.val % 8 = 0) :
    (outsAt0 m c t.val t.isLt).2.2.2.1 (ix2 i (hc n d)) = dkB m c t i n d := by
  rw [outsAt0_A m c t a0]
  frame_open
  simp (disch := decide) only [↓ View.readCov_skip, ↓ View.readCov_fill]
  frame_out
  refine (canon_drop [_] [_, _, _, _] _ (by
      fin_cases n
      · exact ⟨_, .tail _ (.tail _ (.tail _ (.head _))), mem_head _ 0 _ 0 rfl inb_S256x1024_S256x256_0_0⟩
      · exact ⟨_, .tail _ (.tail _ (.head _)), mem_head _ 1 _ 256 rfl inb_S256x1024_S256x256_0_256⟩
      · exact ⟨_, .tail _ (.head _), mem_head _ 2 _ 512 rfl inb_S256x1024_S256x256_0_512⟩
      · exact ⟨_, .head _, mem_head _ 3 _ 768 rfl inb_S256x1024_S256x256_0_768⟩)).trans ?_
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dk3 _ _ _ _ _ _ _).trans ?_
    pointwise [dsR, pR, k0_pay4]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dk2 _ _ _ _ _ _ _).trans ?_
    pointwise [dsR, pR, k0_pay4]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dk1 _ _ _ _ _ _ _).trans ?_
    pointwise [dsR, pR, k0_pay4]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dk0 _ _ _ _ _ _ _).trans ?_
    pointwise [dsR, pR, k0_pay4]
    simp only [hcol0] <;> rfl

theorem dk_at_B (i : Fin 256) (n : Fin 4) (d : Fin 256) (a0 : ¬t.val % 8 = 0) :
    (outsAt0 m c t.val t.isLt).2.2.2.1 (ix2 i (hc n d)) = (outsAt0 m c (t.val - 1) (by omega)).2.2.2.1 (ix2 i (hc n d)) + dkB m c t i n d := by
  rw [outsAt0_B m c t a0]
  frame_open
  simp (disch := decide) only [↓ View.readCov_skip, ↓ View.readCov_fill]
  frame_out
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dk3 _ _ _ _ _ _ _).trans ?_
    pointwise [dsR, pR]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dk2 _ _ _ _ _ _ _).trans ?_
    pointwise [dsR, pR]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dk1 _ _ _ _ _ _ _).trans ?_
    pointwise [dsR, pR]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dk0 _ _ _ _ _ _ _).trans ?_
    pointwise [dsR, pR]
    simp only [hcol0] <;> rfl

end Cert.AttnIdeal.Hand

end
-- ==== Proof.AttnWinV.lean ====
module

public import proofs.«01_k».proof.Proof.AttnWin
public import Idealize.ShloMosaic.Lib.Pipeline.ReadBack

@[expose] public section

/-!
What each grid point of the cross attention gradient's kernel leaves in its output blocks.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ) (c : Dev nD) (t : Fin cfg0.N)

theorem dv_at_A (i : Fin 256) (n : Fin 4) (d : Fin 256) (a0 : t.val % 8 = 0) :
    (outsAt0 m c t.val t.isLt).2.2.2.2.1 (ix2 i (hc n d)) = dvB m c t i n d := by
  rw [outsAt0_A m c t a0]
  frame_open
  simp (disch := decide) only [↓ View.readCov_skip, ↓ View.readCov_fill]
  frame_out
  refine (canon_drop [_] [_, _, _, _] _ (by
      fin_cases n
      · exact ⟨_, .tail _ (.tail _ (.tail _ (.head _))), mem_head _ 0 _ 0 rfl inb_S256x1024_S256x256_0_0⟩
      · exact ⟨_, .tail _ (.tail _ (.head _)), mem_head _ 1 _ 256 rfl inb_S256x1024_S256x256_0_256⟩
      · exact ⟨_, .tail _ (.head _), mem_head _ 2 _ 512 rfl inb_S256x1024_S256x256_0_512⟩
      · exact ⟨_, .head _, mem_head _ 3 _ 768 rfl inb_S256x1024_S256x256_0_768⟩)).trans ?_
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dv3 _ _ _ _ _ _).trans ?_
    pointwise [dsR, pR, k0_pay5]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dv2 _ _ _ _ _ _).trans ?_
    pointwise [dsR, pR, k0_pay5]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dv1 _ _ _ _ _ _).trans ?_
    pointwise [dsR, pR, k0_pay5]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dv0 _ _ _ _ _ _).trans ?_
    pointwise [dsR, pR, k0_pay5]
    simp only [hcol0] <;> rfl

theorem dv_at_B (i : Fin 256) (n : Fin 4) (d : Fin 256) (a0 : ¬t.val % 8 = 0) :
    (outsAt0 m c t.val t.isLt).2.2.2.2.1 (ix2 i (hc n d)) = (outsAt0 m c (t.val - 1) (by omega)).2.2.2.2.1 (ix2 i (hc n d)) + dvB m c t i n d := by
  rw [outsAt0_B m c t a0]
  frame_open
  simp (disch := decide) only [↓ View.readCov_skip, ↓ View.readCov_fill]
  frame_out
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (dv3 _ _ _ _ _ _).trans ?_
    pointwise [dsR, pR]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (dv2 _ _ _ _ _ _).trans ?_
    pointwise [dsR, pR]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (dv1 _ _ _ _ _ _).trans ?_
    pointwise [dsR, pR]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (dv0 _ _ _ _ _ _).trans ?_
    pointwise [dsR, pR]
    simp only [hcol0] <;> rfl

end Cert.AttnIdeal.Hand

end
-- ==== Proof.AttnWinX.lean ====
module

public import proofs.«01_k».proof.Proof.AttnWin
public import Idealize.ShloMosaic.Lib.Pipeline.ReadBack

@[expose] public section

/-!
What each grid point of the cross attention gradient's kernel leaves in its output blocks.
-/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ) (c : Dev nD) (t : Fin cfg0.N)

theorem dx_eq_A (a0 : t.val % 8 = 0) : (outsAt0 m c t.val t.isLt).1
    = k0_pay1 (k0_pay46 (iblk m c 2 t) (iblk m c 3 t)) (k0_pay47 (outsAt0 m c t.val t.isLt).2.2.1 (iblk m c 8 t) (iblk m c 4 t))
      (iblk m c 0 t) (k0_pay48 (iblk m c 3 t))
      (k0_pay49 (outsAt0 m c t.val t.isLt).2.2.1 (iblk m c 8 t) (iblk m c 2 t) (iblk m c 3 t) (iblk m c 4 t)) := by
  rw [outsAt0_A m c t a0]
  frame_out
  rw [readCov_canon _ _ _ (by decide)]

theorem dxb_eq_A (a0 : t.val % 8 = 0) : (outsAt0 m c t.val t.isLt).2.1 = (outsAt0 m c t.val t.isLt).1 := by
  rw [outsAt0_A m c t a0]
  frame_out
  funext y
  pointwise [k0_pay2]

theorem dgain_eq_A (a0 : t.val % 8 = 0) : (outsAt0 m c t.val t.isLt).2.2.2.2.2
    = k0_pay3 (k0_pay45 (outsAt0 m c t.val t.isLt).2.2.1 (iblk m c 8 t)) (k0_pay46 (iblk m c 2 t) (iblk m c 3 t))
      (k0_pay6 (F := Ideal)) := by
  rw [outsAt0_A m c t a0]
  frame_out
  rw [readCov_canon _ _ _ (by decide)]

theorem dx_eq_B (a0 : ¬t.val % 8 = 0) : (outsAt0 m c t.val t.isLt).1
    = k0_pay1 (k0_pay46 (iblk m c 2 t) (iblk m c 3 t)) (k0_pay47 (outsAt0 m c t.val t.isLt).2.2.1 (iblk m c 8 t) (iblk m c 4 t))
      (iblk m c 0 t) (k0_pay48 (iblk m c 3 t))
      (k0_pay49 (outsAt0 m c t.val t.isLt).2.2.1 (iblk m c 8 t) (iblk m c 2 t) (iblk m c 3 t) (iblk m c 4 t)) := by
  rw [outsAt0_B m c t a0]
  frame_out
  rw [readCov_canon _ _ _ (by decide)]

theorem dxb_eq_B (a0 : ¬t.val % 8 = 0) : (outsAt0 m c t.val t.isLt).2.1 = (outsAt0 m c t.val t.isLt).1 := by
  rw [outsAt0_B m c t a0]
  frame_out
  funext y
  pointwise [k0_pay2]

theorem dgain_eq_B (a0 : ¬t.val % 8 = 0) : (outsAt0 m c t.val t.isLt).2.2.2.2.2
    = k0_pay3 (k0_pay45 (outsAt0 m c t.val t.isLt).2.2.1 (iblk m c 8 t)) (k0_pay46 (iblk m c 2 t) (iblk m c 3 t))
      (outsAt0 m c (t.val - 1) (by omega)).2.2.2.2.2 := by
  rw [outsAt0_B m c t a0]
  frame_out
  rw [readCov_canon _ _ _ (by decide)]

end Cert.AttnIdeal.Hand

end
-- ==== Proof.AttnFinal.lean ====
module

public import proofs.«01_k».proof.Proof.AttnMath
public import proofs.«01_k».proof.Proof.AttnWinQ
public import proofs.«01_k».proof.Proof.AttnWinK
public import proofs.«01_k».proof.Proof.AttnWinV
public import proofs.«01_k».proof.Proof.AttnWinX

@[expose] public section

/-! The six arrays the kernel leaves are the reference's stages at the program's arrays, where the scores are real. -/

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen
open Cert.Reals
open Cert.AttnRefIdeal.Hand (rVar rInv rXhat rQ rScore rMax rExp rSum rProb rDo rDp rDs rDv rDk rDq rDxn rW rC rDx rDgain rVar_apply
  rInv_apply rXhat_apply rQ_apply rScore_apply rMax_apply rExp_apply rSum_apply rProb_apply rDo_apply rDp_apply rDs_apply rDv_apply
  rDk_apply rDq_apply rDxn_apply rW_apply rC_apply rDx_apply rDgain_apply)

/-- A sum over the points and the rows of their blocks is a sum over the rows. -/
theorem sum_rows {N : Nat} (hN : N = 8) (F : Fin 4096 → EReal) (r : Fin N → Fin 512 → Fin 4096)
    (hr : ∀ t i, (r t i).val = t.val * 512 + i.val) : ∑ t, ∑ i, F (r t i) = ∑ s, F s := by
  subst hN
  have h := Fin.sum_univ_univ_mul_add 8 512 fun n => if h : n < 4096 then F ⟨n, h⟩ else 0
  calc ∑ t, ∑ i, F (r t i) = _ := Finset.sum_congr rfl fun t _ => Finset.sum_congr rfl fun i _ => by
        rw [← hr t i, dif_pos (r t i).isLt]
    _ = _ := h
    _ = ∑ s : Fin 4096, F s := Finset.sum_congr rfl fun s _ => dif_pos s.isLt

theorem ex_hc (e : Fin 1024) : ∃ (n : Fin 4) (d : Fin 256), e = hc n d :=
  ⟨⟨e.val / 256, by omega⟩, ⟨e.val % 256, by omega⟩, Fin.ext (show e.val = e.val / 256 * 256 + e.val % 256 by omega)⟩

variable (m : (ℓ : Loc nD τ sig) → Buf (Elt Ideal) ℓ) (c : Dev nD)

/-- The stages at the program's arrays. -/
abbrev sInv := rInv (rVar (kx m c))
abbrev sXhat := rXhat (kx m c) (sInv m c)
abbrev sQ := rQ (kg m c) (kwq m c) (sXhat m c)
abbrev sExp := rExp (rScore (kk m c) (sQ m c)) (rMax (rScore (kk m c) (sQ m c)))
abbrev sSum := rSum (sExp m c)
abbrev sDo := rDo (kwo m c) (kdx m c)
abbrev sDs := rDs (sExp m c) (sSum m c) (rDp (kv m c) (sDo m c))
abbrev sDq := rDq (kk m c) (sDs m c)
abbrev sDxn := rDxn (kwq m c) (sDq m c)
abbrev sW := rW (kg m c) (sDxn m c)

/-- The gain, the keys and the query weight are real. -/
structure Real : Prop where
  g : ∀ i, IsR (kg m c i)
  k : ∀ i, IsR (kk m c i)
  w : ∀ i, IsR (kwq m c i)

variable (t : Fin cfg0.N)

theorem oB_row (i : Fin 512) (e : Fin 1024) : oB m c t (ix2 i e) = sDo m c (ix2 (row t i) e) := by
  refine Eq.trans ?_ (rDo_apply ..).symm
  show k0_pay7 (iblk m c 1 t) (iblk m c 9 t) (ix2 i e) = _
  rw [do_apply, blk9]
  exact Finset.sum_congr rfl fun y _ => by rw [blk1]

theorem q_hrow (n : Fin 4) (i : Fin 512) : hrow (n := 512) (iblk m c 5 t) n i = hrow (sQ m c) n (row t i) :=
  funext fun d => blk5 m c t i (hc n d)

theorem o_hrow (n : Fin 4) (i : Fin 512) : hrow (n := 512) (oB m c t) n i = hrow (sDo m c) n (row t i) :=
  funext fun d => oB_row m c t i (hc n d)

theorem p_row (n : Fin 4) (i : Fin 512) : pH (n := 512) (iblk m c 5 t) (iblk m c 6 t) n i = pH (sQ m c) (kk m c) n (row t i) := by
  show probF (scoreF (hrow (n := 512) (iblk m c 5 t) n i) _) = _
  rw [q_hrow, blk6]

theorem ds_row (n : Fin 4) (i : Fin 512) : dsH (n := 512) (iblk m c 5 t) (oB m c t) (iblk m c 6 t) (iblk m c 7 t) n i
    = dsH (sQ m c) (sDo m c) (kk m c) (kv m c) n (row t i) := by
  show dsF (pH (n := 512) (iblk m c 5 t) (iblk m c 6 t) n i) (dprobF (hrow (n := 512) (oB m c t) n i) _) = _
  rw [p_row, o_hrow, blk7]

section
variable {m c} (hr : Real m c)
include hr

theorem q_isR (i : S4096x1024.Idx) : IsR (sQ m c i) := q_real _ _ _ hr.g hr.w i

theorem ds_stage (n : Fin 4) (s : Fin 4096) (j : Fin 256) : dsH (sQ m c) (sDo m c) (kk m c) (kv m c) n s j = sDs m c (ix3 n s j) :=
  ds_eq (kv m c) (sDo m c) hr.k (q_isR hr) n s j

theorem dq_at (i : Fin 512) (e : Fin 1024) : (outsAt0 m c t.val t.isLt).2.2.1 (ix2 i e) = sDq m c (ix2 (row t i) e) := by
  obtain ⟨n, d, rfl⟩ := ex_hc e
  have a0 : (outsAt0 m c t.val t.isLt).2.2.1 (ix2 i (hc n d))
      = ∑ j, dsH (n := 512) (iblk m c 5 t) (oB m c t) (iblk m c 6 t) (iblk m c 7 t) n i j * hrow (n := 256) (iblk m c 6 t) n j d := by
    by_cases h : t.val % 8 = 0
    · exact dq_at_A m c t i n d h
    · exact dq_at_B m c t i n d h
  rw [a0, ds_row, blk6, ← hc_eq]
  refine Eq.trans ?_ (rDq_apply ..).symm
  exact Finset.sum_congr rfl fun j _ => by rw [ds_stage hr]; rfl

theorem dxn_at (i : Fin 512) (e : Fin 1024) :
    ∑ y, (outsAt0 m c t.val t.isLt).2.2.1 (ix2 i y) * iblk m c 8 t (ix2 e y) = ∑ y, sDq m c (ix2 (row t i) y) * kwq m c (ix2 e y) :=
  Finset.sum_congr rfl fun y _ => by rw [dq_at t hr, blk8]

theorem dx_at (i : Fin 512) (e : Fin 1024) : (outsAt0 m c t.val t.isLt).1 (ix2 i e)
    = rDx (kx m c) (kdx m c) (sInv m c) (sW m c) (rC (kx m c) (rVar (kx m c)) (sInv m c) (sW m c)) (ix2 (row t i) e) := by
  have a0 : (outsAt0 m c t.val t.isLt).1
      = k0_pay1 (k0_pay46 (iblk m c 2 t) (iblk m c 3 t)) (k0_pay47 (outsAt0 m c t.val t.isLt).2.2.1 (iblk m c 8 t) (iblk m c 4 t))
      (iblk m c 0 t) (k0_pay48 (iblk m c 3 t))
      (k0_pay49 (outsAt0 m c t.val t.isLt).2.2.1 (iblk m c 8 t) (iblk m c 2 t) (iblk m c 3 t) (iblk m c 4 t)) := by
    by_cases h : t.val % 8 = 0
    · exact dx_eq_A m c t h
    · exact dx_eq_B m c t h
  rw [a0, dx_apply, ← dx_eq]
  simp only [dxn_at t hr, blk0, blk2, blk3, blk4]

theorem dkB_at (j : Fin 256) (n : Fin 4) (d : Fin 256) :
    dkB m c t j n d = ∑ i, sDs m c (ix3 n (row t i) j) * sQ m c (ix2 (row t i) (hc n d)) :=
  Finset.sum_congr rfl fun i _ => by rw [ds_row, q_hrow, ds_stage hr]

end

theorem dvB_at (j : Fin 256) (n : Fin 4) (d : Fin 256) :
    dvB m c t j n d = ∑ i, sDo m c (ix2 (row t i) (hc n d)) * rProb (sExp m c) (sSum m c) (ix3 n (row t i) j) :=
  Finset.sum_congr rfl fun i _ => by rw [p_row, o_hrow, prob_eq, mul_comm]

/-- The gradient of the keys after the last point. -/
theorem dk_last (hr : Real m c) (j : Fin 256) (n : Fin 4) (d : Fin 256) :
    (outsAt0 m c t0_7.val t0_7.isLt).2.2.2.1 (ix2 j (hc n d)) = rDk (sQ m c) (sDs m c) (ix2 j (hc n d)) := by
  have a0 := Pipeline.eq_sum_fin_of_reset_step_apply_last (fun n' h (_ : Unit) => (outsAt0 m c n' h).2.2.2.1 (ix2 j (hc n d))) 8 (fun _ => (0 : EReal))
    (fun t _ => dkB m c t j n d)
    (fun t h _ => by rw [zero_add]; exact dk_at_A m c t j n d h) (fun t h _ => dk_at_B m c t j n d h) (le_of_eq N_0) t0_7 rfl ()
  refine a0.trans ?_
  rw [zero_add, ← hc_eq, rDk_apply, hc_eq]
  simp only [dkB_at _ hr]
  exact sum_rows N_0 (fun s => sDs m c (ix3 n s j) * sQ m c (ix2 s (hc n d))) row row_val

/-- The gradient of the values after the last point. -/
theorem dv_last (j : Fin 256) (n : Fin 4) (d : Fin 256) :
    (outsAt0 m c t0_7.val t0_7.isLt).2.2.2.2.1 (ix2 j (hc n d)) = rDv (rProb (sExp m c) (sSum m c)) (sDo m c) (ix2 j (hc n d)) := by
  have a0 := Pipeline.eq_sum_fin_of_reset_step_apply_last (fun n' h (_ : Unit) => (outsAt0 m c n' h).2.2.2.2.1 (ix2 j (hc n d))) 8 (fun _ => (0 : EReal))
    (fun t _ => dvB m c t j n d)
    (fun t h _ => by rw [zero_add]; exact dv_at_A m c t j n d h) (fun t h _ => dv_at_B m c t j n d h) (le_of_eq N_0) t0_7 rfl ()
  refine a0.trans ?_
  rw [zero_add, ← hc_eq, rDv_apply, hc_eq]
  simp only [dvB_at]
  exact sum_rows N_0 (fun s => sDo m c (ix2 s (hc n d)) * rProb (sExp m c) (sSum m c) (ix3 n s j)) row row_val

/-- What a point adds to the gradient of the gain. -/
def dgB (e : Fin 1024) : EReal := ∑ i, sXhat m c (ix2 (row t i) e) * sDxn m c (ix2 (row t i) e)

theorem dg_add (hr : Real m c) (acc : S1x1024.Idx → EReal) (e : Fin 1024) :
    k0_pay3 (k0_pay45 (outsAt0 m c t.val t.isLt).2.2.1 (iblk m c 8 t)) (k0_pay46 (iblk m c 2 t) (iblk m c 3 t)) acc (ix2 0 e)
      = acc (ix2 0 e) + dgB m c t e := by
  rw [dgain_apply]
  congr 1
  refine Finset.sum_congr rfl fun i _ => ?_
  rw [dxn_at t hr, blk2, blk3, mul_comm]
  exact (congrArg₂ (· * ·) (rXhat_apply ..) (rDxn_apply ..)).symm

theorem dg_last (hr : Real m c) (e : Fin 1024) :
    (outsAt0 m c t0_7.val t0_7.isLt).2.2.2.2.2 (ix2 0 e) = rDgain (sXhat m c) (sDxn m c) (ix2 0 e) := by
  have a0 := Pipeline.eq_sum_fin_of_reset_step_apply_last (fun n' h (_ : Unit) => (outsAt0 m c n' h).2.2.2.2.2 (ix2 0 e)) 8 (fun _ => (0 : EReal))
    (fun t _ => dgB m c t e)
    (fun t h _ => by
      show (outsAt0 m c t.val t.isLt).2.2.2.2.2 (ix2 0 e) = _
      rw [dgain_eq_A m c t h, dg_add m c t hr]
      congr 1
      pointwise [k0_pay6])
    (fun t h _ => by
      show (outsAt0 m c t.val t.isLt).2.2.2.2.2 (ix2 0 e) = _
      rw [dgain_eq_B m c t h, dg_add m c t hr]) (le_of_eq N_0) t0_7 rfl ()
  refine a0.trans ?_
  rw [zero_add, rDgain_apply]
  exact sum_rows N_0 (fun s => sXhat m c (ix2 s e) * sDxn m c (ix2 s e)) row row_val

/-! ## The arrays after the run -/

theorem final10 (hr : Real m c) : (dats m 0 c).arrAt 10 cfg0.N
    = rDx (kx m c) (kdx m c) (sInv m c) (sW m c) (rC (kx m c) (rVar (kx m c)) (sInv m c) (sW m c)) := by
  refine (dats m 0 c).arrAt_eq_of_covers 10 _ (by decide +kernel) fun t hf y => ?_
  blk_simp
  rw [after0_10]
  obtain ⟨i, e, rfl⟩ := ex_ix2 y
  refine (dx_at t hr i e).trans ?_
  have a0 := row_val t i
  blk_ext [idx t]

theorem final11 (hr : Real m c) : (dats m 0 c).arrAt 11 cfg0.N
    = rDx (kx m c) (kdx m c) (sInv m c) (sW m c) (rC (kx m c) (rVar (kx m c)) (sInv m c) (sW m c)) := by
  refine (dats m 0 c).arrAt_eq_of_covers 11 _ (by decide +kernel) fun t hf y => ?_
  blk_simp
  rw [after0_11]
  obtain ⟨i, e, rfl⟩ := ex_ix2 y
  have a1 : (outsAt0 m c t.val t.isLt).2.1 = (outsAt0 m c t.val t.isLt).1 := by
    by_cases h : t.val % 8 = 0
    · exact dxb_eq_A m c t h
    · exact dxb_eq_B m c t h
  refine (congrFun a1 _).trans ((dx_at t hr i e).trans ?_)
  have a0 := row_val t i
  blk_ext [idx t]

theorem final12 (hr : Real m c) : (dats m 0 c).arrAt 12 cfg0.N = sDq m c := by
  refine (dats m 0 c).arrAt_eq_of_covers 12 _ (by decide +kernel) fun t hf y => ?_
  blk_simp
  rw [after0_12]
  obtain ⟨i, e, rfl⟩ := ex_ix2 y
  refine (dq_at t hr i e).trans ?_
  have a0 := row_val t i
  blk_ext [idx t]

theorem final13 (hr : Real m c) : (dats m 0 c).arrAt 13 cfg0.N = rDk (sQ m c) (sDs m c) := by
  refine (dats m 0 c).arrAt_eq_of_after_last 13 t0_7 (by decide +kernel) _ fun y => ?_
  blk_simp
  rw [after0_13]
  obtain ⟨i, e, rfl⟩ := ex_ix2 y
  obtain ⟨n, d, rfl⟩ := ex_hc e
  exact dk_last m c hr i n d

theorem final14 : (dats m 0 c).arrAt 14 cfg0.N = rDv (rProb (sExp m c) (sSum m c)) (sDo m c) := by
  refine (dats m 0 c).arrAt_eq_of_after_last 14 t0_7 (by decide +kernel) _ fun y => ?_
  blk_simp
  rw [after0_14]
  obtain ⟨i, e, rfl⟩ := ex_ix2 y
  obtain ⟨n, d, rfl⟩ := ex_hc e
  exact dv_last m c i n d

theorem final15 (hr : Real m c) : (dats m 0 c).arrAt 15 cfg0.N = rDgain (sXhat m c) (sDxn m c) := by
  refine (dats m 0 c).arrAt_eq_of_after_last 15 t0_7 (by decide +kernel) _ fun y => ?_
  blk_simp
  rw [after0_15]
  obtain ⟨i, e, rfl⟩ := ex_ix2 y
  obtain rfl : i = 0 := Subsingleton.elim _ _
  exact dg_last m c hr e

end Cert.AttnIdeal.Hand
end
-- ==== Proof.AttnClaim.lean ====
module

public import proofs.«01_k».proof.Proof.AttnFinal
public import proofs.«01_k».proof.Defs
public import proofs.«01_k».proof.Proof.Gen.Pre_finite_scores
public import proofs.«01_k».proof.Proof.Gen.AttnIdeal.Value
public import proofs.«01_k».proof.Proof.Gen.AttnRefIdeal.Run
public import Idealize.ShloMosaic.Adequacy
public import Idealize.ShloMosaic.Init

@[expose] public section

/-! The cross attention's gradient: the kernel and the reference leave equal arrays where the scores are real. -/

set_option maxRecDepth 16384

noncomputable section

namespace Cert.AttnIdeal.Hand

open Idealize.ShloMosaic Idealize.ShloMosaic.TcCoe Idealize.SL.Sem
open Cert.Reals

/-- The precondition says that the gain, the keys and the query weight are real. -/
theorem real_of_pre (m : (ℓ : Loc nD τ sig) → Buf (Elt Ideal) ℓ) (h : Cert.Pre_AttnIdeal_finite_scores m) (c : Dev nD) : Real m c := by
  obtain ⟨h0, h1, h2⟩ := h c
  exact ⟨fun i => isR_of_abs_lt (congrFun h0 i), fun i => isR_of_abs_lt (congrFun h1 i), fun i => isR_of_abs_lt (congrFun h2 i)⟩

open Cert.AttnRefIdeal.Hand in
theorem algebraic : Cert.algebraic_AttnIdeal_AttnRefIdeal_pre_finite_scores := by
  intro m g m' g' hp hm
  refine ⟨_, _, _, _, _, _, Cert.AttnIdeal.Value.run_blocks m g, ?_⟩
  refine (θ_run _ _ _).mono (fun r h c => ?_) (Cert.AttnRefIdeal.Value.run m' g')
  obtain ⟨e0, e1, e2, e3, e4, e5, e6⟩ := h c
  obtain ⟨h0, h1, h2, h3, h4, h5, h6⟩ := hm c
  have hr := real_of_pre m hp c
  have aInv : cInv m' c = sInv m c := by
    show Cert.AttnRefIdeal.Hand.rInv (Cert.AttnRefIdeal.Hand.rVar (ax m' c)) = _
    rw [show ax m' c = kx m c from h0]
  have aVar : cVar m' c = Cert.AttnRefIdeal.Hand.rVar (kx m c) := by
    show Cert.AttnRefIdeal.Hand.rVar (ax m' c) = _
    rw [show ax m' c = kx m c from h0]
  have aXhat : cXhat m' c = sXhat m c := by
    show Cert.AttnRefIdeal.Hand.rXhat (ax m' c) (cInv m' c) = _
    rw [aInv, show ax m' c = kx m c from h0]
  have aQ : cQ m' c = sQ m c := by
    show Cert.AttnRefIdeal.Hand.rQ (ag m' c) (awq m' c) (cXhat m' c) = _
    rw [aXhat, show ag m' c = kg m c from h1, show awq m' c = kwq m c from h4]
  have aExp : cExp m' c = sExp m c := by
    show Cert.AttnRefIdeal.Hand.rExp (Cert.AttnRefIdeal.Hand.rScore (ak m' c) (cQ m' c)) (Cert.AttnRefIdeal.Hand.rMax (Cert.AttnRefIdeal.Hand.rScore (ak m' c) (cQ m' c))) = _
    rw [aQ, show ak m' c = kk m c from h2]
  have aSum : cSum m' c = sSum m c := congrArg Cert.AttnRefIdeal.Hand.rSum aExp
  have aDo : cDo m' c = sDo m c := by
    show Cert.AttnRefIdeal.Hand.rDo (awo m' c) (adx m' c) = _
    rw [show awo m' c = kwo m c from h5, show adx m' c = kdx m c from h6]
  have aDs : cDs m' c = sDs m c := by
    show Cert.AttnRefIdeal.Hand.rDs (cExp m' c) (cSum m' c) (Cert.AttnRefIdeal.Hand.rDp (av m' c) (cDo m' c)) = _
    rw [aExp, aSum, aDo, show av m' c = kv m c from h3]
  have aDq : cDq m' c = sDq m c := by
    show Cert.AttnRefIdeal.Hand.rDq (ak m' c) (cDs m' c) = _
    rw [aDs, show ak m' c = kk m c from h2]
  have aDxn : cDxn m' c = sDxn m c := by
    show Cert.AttnRefIdeal.Hand.rDxn (awq m' c) (cDq m' c) = _
    rw [aDq, show awq m' c = kwq m c from h4]
  have aW : cW m' c = sW m c := by
    show Cert.AttnRefIdeal.Hand.rW (ag m' c) (cDxn m' c) = _
    rw [aDxn, show ag m' c = kg m c from h1]
  refine ⟨e0.trans ?_, e1.trans ?_, e2.trans ?_, e3.trans ?_, e4.trans ?_, e5.trans ?_, e6⟩
  · rw [final10 m c hr, res0, aInv, aW, aVar, show ax m' c = kx m c from h0, show adx m' c = kdx m c from h6]
  · rw [final11 m c hr, res1, aInv, aW, aVar, show ax m' c = kx m c from h0, show adx m' c = kdx m c from h6]
    rfl
  · rw [final12 m c hr, res2, aDq]
    rfl
  · rw [final13 m c hr, res3, aQ, aDs]
  · rw [final14 m c, res4, aExp, aSum, aDo]
  · rw [final15 m c hr, res5, aXhat, aDxn]

end Cert.AttnIdeal.Hand
end
-- ==== Proof.DownClaim.lean ====
module

public import proofs.«01_k».proof.Defs
public import proofs.«01_k».proof.Proof.Cells
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Adequacy
public import Idealize.ShloMosaic.Init

@[expose] public section

/-!
The gradient of the feed forward's last weight. Point `t` of the kernel multiplies columns `256 t … 256 t + 255` of the
hidden activations, transposed, with the gradient of the output; the reference multiplies the transpose of the latter
with the former and transposes the product.
-/

set_option maxRecDepth 16384

noncomputable section

namespace Cert.DownRefIdeal.Hand

open Idealize.ShloMosaic Idealize.ShloMosaic.TcCoe Idealize.ShloMosaic.StableHlo Idealize.SL.Sem
open Cert.DownRefIdeal Cert.DownRefIdeal.Gen Cert.DownRefIdeal.Value

/-- The columns of the rows times a weight. -/
def rCol (xn : FVec Ideal S4096x1024 .f32) (w : FVec Ideal S1024x2816 .f32) : FVec Ideal S4096x2816 .f32 :=
  Host.dotGeneral dot_S4096x1024_S1024x2816_S4096x2816_1_0_0_1_n_n none xn w

/-- The hidden activations. -/
def rHid (g u : FVec Ideal S4096x2816 .f32) : FVec Ideal S4096x2816 .f32 :=
  mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) u

/-- The weight's gradient. -/
def rDw (h : FVec Ideal S4096x2816 .f32) (dx : FVec Ideal S4096x1024 .f32) : FVec Ideal S2816x1024 .bf16 :=
  truncf .bf16 (transpose S2816x1024 [1, 0] (Host.dotGeneral dot_S4096x1024_S4096x2816_S1024x2816_0_0_1_1_n_n none dx h) transposes_S1024x2816_S2816x1024_1_0) bitsLt_bf16_f32

theorem rDw_apply (h : FVec Ideal S4096x2816 .f32) (dx : FVec Ideal S4096x1024 .f32) (i : Fin 2816) (j : Fin 1024) :
    rDw h dx (ix2 i j) = ∑ s, dx (ix2 s j) * h (ix2 s i) := by
  pointwise [rDw]

end Cert.DownRefIdeal.Hand

namespace Cert.DownIdeal.Hand

open Idealize.ShloMosaic Idealize.ShloMosaic.TcCoe Idealize.SL.Sem
open Idealize.ShloMosaic.Pipeline (Dat)
open Cert.DownIdeal Cert.DownIdeal.Gen
open Cert.Cells (ex_ix2)
open Cert.DownRefIdeal.Hand (rCol rHid rDw rDw_apply)

theorem dw_apply (h : Vec Ideal S4096x256 .bf16) (dx : Vec Ideal S4096x1024 .bf16) (i : Fin 256) (j : Fin 1024) :
    k0_pay1 h dx (ix2 i j) = ∑ s, h (ix2 s i) * dx (ix2 s j) := by
  pointwise [k0_pay1]

variable (m : (ℓ : Loc nD τ sig) → Buf (Elt Ideal) ℓ) (c : Dev nD)

/-- The program's arrays. -/
abbrev kxn : FVec Ideal S4096x1024 .f32 := m ((c : Thread nD τ).loc main_arg0)
abbrev kwg : FVec Ideal S1024x2816 .f32 := m ((c : Thread nD τ).loc main_arg1)
abbrev kwu : FVec Ideal S1024x2816 .f32 := m ((c : Thread nD τ).loc main_arg2)
abbrev kdx : FVec Ideal S4096x1024 .f32 := m ((c : Thread nD τ).loc main_arg4)

/-- The hidden activations. -/
abbrev sHid := rHid (rCol (kxn m c) (kwg m c)) (rCol (kxn m c) (kwu m c))

theorem idx : ∀ t : Fin cfg0.N, win0_0.index t = ![0, t.val] ∧ win0_1.index t = ![0, 0] ∧ win0_2.index t = ![t.val, 0] ∧ t.val < 11 :=
  (by decide +kernel : ∀ t : Fin grid0.N, _)

/-- Column `i` of point `t`'s block. -/
def col (t : Fin cfg0.N) (i : Fin 256) : Fin 2816 := ⟨t.val * 256 + i.val, by have := (idx t).2.2.2; omega⟩

theorem col_val (t : Fin cfg0.N) (i : Fin 256) : (col t i).val = t.val * 256 + i.val := rfl

theorem V4 : (V m c main_v4 : FVec Ideal S4096x2816 .bf16) = sHid m c := by entry_read; rfl
theorem V5 : (V m c main_v5 : FVec Ideal S4096x1024 .bf16) = kdx m c := by entry_read; rfl

variable (t : Fin cfg0.N)

theorem blk0 (s : Fin 4096) (i : Fin 256) : iblk m c 0 t (ix2 s i) = sHid m c (ix2 s (col t i)) := by
  have a0 := col_val t i
  rw [← V4 m c]
  blk_ext [iblk, idx t]

theorem blk1 : iblk m c 1 t = kdx m c := by
  rw [← V5 m c]
  blk_ext! [iblk, idx t]

theorem final2 : (dats m 0 c).arrAt 2 cfg0.N = rDw (sHid m c) (kdx m c) := by
  refine (dats m 0 c).arrAt_eq_of_covers 2 _ (by decide +kernel) fun t hf y => ?_
  blk_simp
  rw [after0_2]
  obtain ⟨i, e, rfl⟩ := ex_ix2 y
  have a1 : out0_2 (iblk m c 0 t) (iblk m c 1 t) (ix2 i e) = rDw (sHid m c) (kdx m c) (ix2 (col t i) e) := by
    refine Eq.trans ?_ (rDw_apply ..).symm
    have a2 : out0_2 (iblk m c 0 t) (iblk m c 1 t) (ix2 i e) = k0_pay1 (iblk m c 0 t) (iblk m c 1 t) (ix2 i e) := by
      frame_out
    rw [a2, dw_apply, blk1]
    exact Finset.sum_congr rfl fun s _ => by rw [blk0, mul_comm]
  refine a1.trans ?_
  have a0 := col_val t i
  blk_ext [idx t]

theorem algebraic : Cert.algebraic_DownIdeal_DownRefIdeal := by
  intro m g m' g' _ hm
  refine ⟨_, Cert.DownIdeal.Value.run_blocks m g, ?_⟩
  refine (θ_run _ _ _).mono (fun r h c => ?_) (Cert.DownRefIdeal.Value.run m' g')
  obtain ⟨e0, e1⟩ := h c
  obtain ⟨h0, h1, h2, h3, h4⟩ := hm c
  refine ⟨e0.trans ?_, e1⟩
  rw [final2 m c]
  show rDw (rHid (rCol (m' ((c.tc : Thread _ _).loc Cert.DownRefIdeal.main_arg0)) (m' ((c.tc : Thread _ _).loc Cert.DownRefIdeal.main_arg1)))
    (rCol (m' ((c.tc : Thread _ _).loc Cert.DownRefIdeal.main_arg0)) (m' ((c.tc : Thread _ _).loc Cert.DownRefIdeal.main_arg2))))
    (m' ((c.tc : Thread _ _).loc Cert.DownRefIdeal.main_arg4)) = _
  rw [h0, h1, h2, h4]

end Cert.DownIdeal.Hand
end
-- ==== Proof.FfnRefStages.lean ====
module

public import proofs.«01_k».proof.Proof.AttnRefStages
public import proofs.«01_k».proof.Proof.Gen.FfnRefIdeal

@[expose] public section

/-!
The stages of the feed forward layer and of its gradient, in the order of its mathematics. The norm's own stages are those
of the cross attention's reference.
-/

set_option maxRecDepth 16384

noncomputable section

namespace Cert.FfnRefIdeal.Hand

open Idealize.ShloMosaic Idealize.ShloMosaic.TcCoe Idealize.ShloMosaic.StableHlo Idealize.SL.Sem
open Cert.FfnRefIdeal Cert.FfnRefIdeal.Gen

/-- The normalised rows with their gain. -/
def rXn (g : FVec Ideal S1024 .f32) (xh : FVec Ideal S4096x1024 .f32) : FVec Ideal S4096x1024 .f32 :=
  mulf xh (broadcastInDim S4096x1024 ![0, 1] bcast_S1x1024_S4096x1024_0_1 (broadcastInDim S1x1024 ![1] bcast_S1024_S1x1024_1 g))

/-- The rows times the gate's weight or the up projection's weight. -/
def rCol (xn : FVec Ideal S4096x1024 .f32) (w : FVec Ideal S1024x2816 .f32) : FVec Ideal S4096x2816 .f32 :=
  Host.dotGeneral dot_S4096x1024_S1024x2816_S4096x2816_1_0_0_1_n_n none xn w

/-- One at every entry. -/
def rOne : FVec Ideal S4096x2816 .f32 :=
  broadcastInDim S4096x2816 ![] bcast_S_S4096x2816 (constant S_ .f32 0x3F800000#32)

/-- The logistic function of the gate. -/
def rSig (gt : FVec Ideal S4096x2816 .f32) : FVec Ideal S4096x2816 .f32 :=
  Host.divf rOne (addf rOne (Host.exp (Host.negf gt)))

/-- The derivative of the logistic function. -/
def rSigD (sg : FVec Ideal S4096x2816 .f32) : FVec Ideal S4096x2816 .f32 :=
  mulf sg (subf rOne sg)

/-- The gate times its logistic function. -/
def rSilu (gt sg : FVec Ideal S4096x2816 .f32) : FVec Ideal S4096x2816 .f32 :=
  mulf gt sg

/-- The gradient of the hidden activations. -/
def rDh (wd : FVec Ideal S2816x1024 .f32) (dx : FVec Ideal S4096x1024 .f32) : FVec Ideal S4096x2816 .f32 :=
  Host.dotGeneral dot_S4096x1024_S2816x1024_S4096x2816_1_1_0_0_n_n none dx wd

/-- The gradient of the gate, given that of its product with the logistic function. -/
def rDgate (gt sg sd dz : FVec Ideal S4096x2816 .f32) : FVec Ideal S4096x2816 .f32 :=
  addf (mulf dz sg) (mulf (mulf gt dz) sd)

/-- The gradient of the normalised rows. -/
def rDxn (wg wu : FVec Ideal S1024x2816 .f32) (dg du : FVec Ideal S4096x2816 .f32) : FVec Ideal S4096x1024 .f32 :=
  addf (Host.dotGeneral dot_S4096x2816_S1024x2816_S4096x1024_1_1_0_0_n_n none du wu)
    (Host.dotGeneral dot_S4096x2816_S1024x2816_S4096x1024_1_1_0_0_n_n none dg wg)

variable (xh xn dx : FVec Ideal S4096x1024 .f32) (g : FVec Ideal S1024 .f32) (w wg wu : FVec Ideal S1024x2816 .f32)
variable (wd : FVec Ideal S2816x1024 .f32) (gt sg sd dz dg du : FVec Ideal S4096x2816 .f32)
variable (s : Fin 4096) (d : Fin 1024) (e : Fin 2816)

theorem rXn_apply : rXn g xh (ix2 s d) = xh (ix2 s d) * g (ix1 d) := by
  pointwise [rXn]

theorem rCol_apply : rCol xn w (ix2 s e) = ∑ y, xn (ix2 s y) * w (ix2 y e) := by
  pointwise [rCol]

theorem rOne_apply : rOne (ix2 s e) = Ideal.ofBits .f32 0x3F800000#32 := by
  pointwise [rOne]

theorem rSig_apply : rSig gt (ix2 s e)
    = Ideal.div (Ideal.ofBits .f32 0x3F800000#32) (Ideal.ofBits .f32 0x3F800000#32 + Ideal.exp (-gt (ix2 s e))) := by
  pointwise [rSig, rOne]

theorem rSigD_apply : rSigD sg (ix2 s e) = sg (ix2 s e) * (Ideal.ofBits .f32 0x3F800000#32 - sg (ix2 s e)) := by
  pointwise [rSigD, rOne]

theorem rSilu_apply : rSilu gt sg (ix2 s e) = gt (ix2 s e) * sg (ix2 s e) := by
  pointwise [rSilu]

theorem rDh_apply : rDh wd dx (ix2 s e) = ∑ y, dx (ix2 s y) * wd (ix2 e y) := by
  pointwise [rDh]

theorem rDgate_apply : rDgate gt sg sd dz (ix2 s e)
    = dz (ix2 s e) * sg (ix2 s e) + gt (ix2 s e) * dz (ix2 s e) * sd (ix2 s e) := by
  pointwise [rDgate]

theorem rDxn_apply : rDxn wg wu dg du (ix2 s d)
    = (∑ e, du (ix2 s e) * wu (ix2 d e)) + ∑ e, dg (ix2 s e) * wg (ix2 d e) := by
  pointwise [rDxn]

end Cert.FfnRefIdeal.Hand

end
-- ==== Proof.FfnMath.lean ====
module

public import proofs.«01_k».proof.Proof.FfnRefStages
public import proofs.«01_k».proof.Proof.AttnMath

@[expose] public section

/-! The feed forward layer's mathematics over the reals: its stages are real where the arrays are, and the kernel's gradient
of the gate, taken with the derivative of the activation saved by the forward pass, is the reference's. -/

set_option maxRecDepth 16384

noncomputable section

namespace Cert.FfnRefIdeal.Hand

open Idealize.ShloMosaic Idealize.ShloMosaic.TcCoe Idealize.SL.Sem
open Idealize.ShloMosaic.Pipeline (Dat)
open Cert.FfnRefIdeal
open Cert.Reals
open Cert.Cells (ex_ix2)
open Cert.AttnRefIdeal.Hand (rVar rInv rXhat rW rC rDx rDgain rVar_apply rInv_apply rXhat_apply rW_apply rC_apply rDx_apply rDgain_apply)

variable (x dx xh xn : FVec Ideal S4096x1024 .f32) (g : FVec Ideal S1024 .f32) (w : FVec Ideal S1024x2816 .f32)
  (wd : FVec Ideal S2816x1024 .f32)

theorem xn_real (hg : ∀ i, IsR (g i)) (i : S4096x1024.Idx) : IsR (rXn g (rXhat x (rInv (rVar x))) i) := by
  obtain ⟨s, e, rfl⟩ := ex_ix2 i
  rw [rXn_apply, rXhat_apply, rInv_apply, rVar_apply]
  exact (xhat_isR (fun e => x (ix2 s e)) e).mul (hg _)

theorem col_real (hx : ∀ i, IsR (xn i)) (hw : ∀ i, IsR (w i)) (i : S4096x2816.Idx) : IsR (rCol xn w i) := by
  obtain ⟨s, e, rfl⟩ := ex_ix2 i
  rw [rCol_apply]
  exact IsR.sum _ _ fun l => (hx _).mul (hw _)

theorem dh_real (hx : ∀ i, IsR (dx i)) (hw : ∀ i, IsR (wd i)) (i : S4096x2816.Idx) : IsR (rDh wd dx i) := by
  obtain ⟨s, e, rfl⟩ := ex_ix2 i
  rw [rDh_apply]
  exact IsR.sum _ _ fun l => (hx _).mul (hw _)

/-- The logistic function of any value is real, and where the value is infinite its derivative is 0. -/
theorem logistic_cases (a : EReal) : IsR (Ideal.div 1 (1 + Ideal.exp (-a)))
    ∧ (IsR a ∨ Ideal.div 1 (1 + Ideal.exp (-a)) * (1 - Ideal.div 1 (1 + Ideal.exp (-a))) = 0) := by
  have one : Ideal.div 1 1 = 1 := by
    rw [← EReal.coe_one, div_coe _ one_ne_zero]
    simp
  have top : Ideal.div 1 ⊤ = 0 := by simp [Ideal.div]
  induction a with
  | bot =>
    have h : (1 : EReal) + Ideal.exp (-⊥) = ⊤ := EReal.coe_add_top 1
    rw [h, top]
    exact ⟨IsR.zero, .inr (zero_mul _)⟩
  | top =>
    have h : (1 : EReal) + Ideal.exp (-⊤) = 1 := add_zero 1
    have h1 : (1 : EReal) - 1 = 0 := by rw [← EReal.coe_one, ← EReal.coe_sub]; simp
    rw [h, one]
    exact ⟨IsR.one, .inr (by rw [h1, mul_zero])⟩
  | coe a =>
    have h : (1 : EReal) + Ideal.exp (-(a : EReal)) = ((1 + Real.exp (-a) : ℝ) : EReal) := by
      rw [← EReal.coe_neg, exp_coe, EReal.coe_add, EReal.coe_one]
    rw [h, div_coe 1 (by positivity)]
    exact ⟨IsR.one.mul (IsR.coe _), .inl (IsR.coe a)⟩

theorem sig_cases (gt : FVec Ideal S4096x2816 .f32) (s : Fin 4096) (e : Fin 2816) :
    IsR (rSig gt (ix2 s e)) ∧ (IsR (gt (ix2 s e)) ∨ rSig gt (ix2 s e) * (1 - rSig gt (ix2 s e)) = 0) := by
  rw [rSig_apply, lit_one]
  exact logistic_cases _

/-- The saved derivative of the gate, times the gradient of the hidden activations. -/
theorem gate_grad {a u g s : EReal} (ha : IsR a) (hu : IsR u) (hs : IsR s) (hg : IsR g ∨ s * (1 - s) = 0) :
    a * (1 * u * s + g * (1 * u) * (s * (1 - s))) = a * u * s + g * (a * u) * (s * (1 - s)) := by
  rw [one_mul]
  obtain hg | hg := hg
  · obtain ⟨a, rfl⟩ := ha
    obtain ⟨u, rfl⟩ := hu
    obtain ⟨g, rfl⟩ := hg
    obtain ⟨s, rfl⟩ := hs
    norm_cast
    ring
  · rw [hg, mul_zero, mul_zero, add_zero, add_zero, mul_assoc]

/-- The derivative in the gate, as the forward kernel writes it. -/
theorem gate_saved {u g s : EReal} (hu : IsR u) (hs : IsR s) (hg : IsR g ∨ s * (1 - s) = 0) :
    u * (s + g * s * (1 - s)) = 1 * u * s + g * (1 * u) * (s * (1 - s)) := by
  rw [one_mul]
  obtain hg | hg := hg
  · obtain ⟨u, rfl⟩ := hu
    obtain ⟨g, rfl⟩ := hg
    obtain ⟨s, rfl⟩ := hs
    norm_cast
    ring
  · rw [mul_assoc g s, hg, mul_zero, mul_zero, add_zero, add_zero]

/-- The last stage of the gradient of the input. -/
theorem dx_eq (dn : FVec Ideal S4096x1024 .f32) (s : Fin 4096) (e : Fin 1024) :
    dx (ix2 s e) + rInv (rVar x) (ix2 s 0) * (dn (ix2 s e) * g (ix1 e) - x (ix2 s e) * rInv (rVar x) (ix2 s 0)
        * Ideal.div (∑ l, dn (ix2 s l) * g (ix1 l) * (x (ix2 s l) * rInv (rVar x) (ix2 s 0))) (Ideal.ofBits .f32 0x44800000#32))
      = rDx x dx (rInv (rVar x)) (rW g dn) (rC x (rVar x) (rInv (rVar x)) (rW g dn)) (ix2 s e) := by
  rw [rDx_apply, rC_apply]
  simp only [rW_apply]
  rw [rInv_apply, rVar_apply]
  exact rms_grad_any (fun l => x (ix2 s l)) (fun l => dn (ix2 s l) * g (ix1 l)) _ e

end Cert.FfnRefIdeal.Hand
end
-- ==== Proof.FfnWin.lean ====
module

public import proofs.«01_k».proof.Proof.Cells
public import proofs.«01_k».proof.Proof.Gen.FfnIdeal.Value
public import Idealize.ShloMosaic.Lib.Pipeline.ReadBack

@[expose] public section

/-!
What each grid point of the feed forward gradient's kernel leaves in its blocks of the gate's and the up projection's
gradients: the gradient of the hidden activations times the saved derivative, written in eleven pieces of columns.
-/

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen
open Cert.Cells (ex_ix2 canon_drop readCov_canon)

/-- A column of the block, times the saved derivative. -/
def dcol (x1 : S256x1024.Idx → EReal) (x9 : S2816x1024.Idx → EReal) (x5 : S256x2816.Idx → EReal) (i : Fin 256) (e : Fin 2816) : EReal :=
  (∑ y, x1 (ix2 i y) * x9 (ix2 e y)) * x5 (ix2 i e)

variable (m : (ℓ : Loc nD τ sig) → Buf (Elt Ideal) ℓ) (c : Dev nD) (t : Fin cfg0.N)

theorem dg_at_A (i : Fin 256) (e : Fin 2816) (a0 : t.val % 16 = 0) :
    (outsAt0 m c t.val t.isLt).2.2.1 (ix2 i e) = dcol (iblk m c 1 t) (iblk m c 9 t) (iblk m c 5 t) i e := by
  rw [outsAt0_A m c t a0]
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [dcol, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

theorem dg_at_B (i : Fin 256) (e : Fin 2816) (a0 : ¬t.val % 16 = 0) :
    (outsAt0 m c t.val t.isLt).2.2.1 (ix2 i e) = dcol (iblk m c 1 t) (iblk m c 9 t) (iblk m c 5 t) i e := by
  rw [outsAt0_B m c t a0]
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [dcol, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

theorem du_at_A (i : Fin 256) (e : Fin 2816) (a0 : t.val % 16 = 0) :
    (outsAt0 m c t.val t.isLt).2.2.2.1 (ix2 i e) = dcol (iblk m c 1 t) (iblk m c 9 t) (iblk m c 6 t) i e := by
  rw [outsAt0_A m c t a0]
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [dcol, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

theorem du_at_B (i : Fin 256) (e : Fin 2816) (a0 : ¬t.val % 16 = 0) :
    (outsAt0 m c t.val t.isLt).2.2.2.1 (ix2 i e) = dcol (iblk m c 1 t) (iblk m c 9 t) (iblk m c 6 t) i e := by
  rw [outsAt0_B m c t a0]
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [dcol, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]

end Cert.FfnIdeal.Hand
end
-- ==== Proof.FfnWinX.lean ====
module

public import proofs.«01_k».proof.Proof.FfnWin

@[expose] public section

/-! What each grid point of the feed forward gradient's kernel leaves in its other output blocks. -/

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen
open Cert.Cells (ex_ix2 readCov_canon)

variable (m : (ℓ : Loc nD τ sig) → Buf (Elt Ideal) ℓ) (c : Dev nD) (t : Fin cfg0.N)

theorem dx_eq_A (a0 : t.val % 16 = 0) : (outsAt0 m c t.val t.isLt).1
    = k0_pay1 (iblk m c 0 t) (k0_pay42 (iblk m c 3 t)) (k0_pay43 (outsAt0 m c t.val t.isLt).2.2.1 (iblk m c 7 t) (outsAt0 m c t.val t.isLt).2.2.2.1 (iblk m c 8 t) (iblk m c 4 t))
      (k0_pay44 (iblk m c 2 t) (iblk m c 3 t)) (k0_pay45 (outsAt0 m c t.val t.isLt).2.2.1 (iblk m c 7 t) (outsAt0 m c t.val t.isLt).2.2.2.1 (iblk m c 8 t) (iblk m c 2 t) (iblk m c 3 t) (iblk m c 4 t)) := by
  rw [outsAt0_A m c t a0]
  frame_out
  rw [readCov_canon _ _ _ (by decide), readCov_canon _ _ _ (by decide)]

theorem dxb_eq_A (a0 : t.val % 16 = 0) : (outsAt0 m c t.val t.isLt).2.1 = (outsAt0 m c t.val t.isLt).1 := by
  rw [outsAt0_A m c t a0]
  frame_out
  funext y
  pointwise [k0_pay2]

theorem dgain_eq_A (a0 : t.val % 16 = 0) : (outsAt0 m c t.val t.isLt).2.2.2.2
    = k0_pay3 (k0_pay41 (outsAt0 m c t.val t.isLt).2.2.1 (iblk m c 7 t) (outsAt0 m c t.val t.isLt).2.2.2.1 (iblk m c 8 t)) (k0_pay44 (iblk m c 2 t) (iblk m c 3 t)) (k0_pay4 (F := Ideal)) := by
  rw [outsAt0_A m c t a0]
  frame_out
  rw [readCov_canon _ _ _ (by decide), readCov_canon _ _ _ (by decide)]

theorem dx_eq_B (a0 : ¬t.val % 16 = 0) : (outsAt0 m c t.val t.isLt).1
    = k0_pay1 (iblk m c 0 t) (k0_pay42 (iblk m c 3 t)) (k0_pay43 (outsAt0 m c t.val t.isLt).2.2.1 (iblk m c 7 t) (outsAt0 m c t.val t.isLt).2.2.2.1 (iblk m c 8 t) (iblk m c 4 t))
      (k0_pay44 (iblk m c 2 t) (iblk m c 3 t)) (k0_pay45 (outsAt0 m c t.val t.isLt).2.2.1 (iblk m c 7 t) (outsAt0 m c t.val t.isLt).2.2.2.1 (iblk m c 8 t) (iblk m c 2 t) (iblk m c 3 t) (iblk m c 4 t)) := by
  rw [outsAt0_B m c t a0]
  frame_out
  rw [readCov_canon _ _ _ (by decide), readCov_canon _ _ _ (by decide)]

theorem dxb_eq_B (a0 : ¬t.val % 16 = 0) : (outsAt0 m c t.val t.isLt).2.1 = (outsAt0 m c t.val t.isLt).1 := by
  rw [outsAt0_B m c t a0]
  frame_out
  funext y
  pointwise [k0_pay2]

theorem dgain_eq_B (a0 : ¬t.val % 16 = 0) : (outsAt0 m c t.val t.isLt).2.2.2.2
    = k0_pay3 (k0_pay41 (outsAt0 m c t.val t.isLt).2.2.1 (iblk m c 7 t) (outsAt0 m c t.val t.isLt).2.2.2.1 (iblk m c 8 t)) (k0_pay44 (iblk m c 2 t) (iblk m c 3 t)) (outsAt0 m c (t.val - 1) (by omega)).2.2.2.2 := by
  rw [outsAt0_B m c t a0]
  frame_out
  rw [readCov_canon _ _ _ (by decide), readCov_canon _ _ _ (by decide)]

end Cert.FfnIdeal.Hand
end
-- ==== Proof.FfnBlocks.lean ====
module

public import proofs.«01_k».proof.Proof.FfnWin
public import proofs.«01_k».proof.Proof.FfnRefStages

@[expose] public section

/-! What the kernel's windows hold at a grid point, in terms of the arrays the program was given, and what the last lines of
a point compute. Point `t` works on rows `256 t … 256 t + 255`; the three weights and the gain are whole at every point. -/

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen
open Cert.AttnRefIdeal.Hand (rVar rInv rXhat)
open Cert.FfnRefIdeal.Hand

variable (m : (ℓ : Loc nD τ sig) → Buf (Elt Ideal) ℓ) (c : Dev nD)

/-- The program's arrays. -/
abbrev kx : FVec Ideal S4096x1024 .f32 := m ((c : Thread nD τ).loc main_arg0)
abbrev kg : FVec Ideal S1024 .f32 := m ((c : Thread nD τ).loc main_arg1)
abbrev kwg : FVec Ideal S1024x2816 .f32 := m ((c : Thread nD τ).loc main_arg2)
abbrev kwu : FVec Ideal S1024x2816 .f32 := m ((c : Thread nD τ).loc main_arg3)
abbrev kwd : FVec Ideal S2816x1024 .f32 := m ((c : Thread nD τ).loc main_arg4)
abbrev kdx : FVec Ideal S4096x1024 .f32 := m ((c : Thread nD τ).loc main_arg5)

/-- The stages of the forward layer at the program's arrays. -/
abbrev sInv := rInv (rVar (kx m c))
abbrev sXhat := rXhat (kx m c) (sInv m c)
abbrev sXn := rXn (kg m c) (sXhat m c)
abbrev sGate := rCol (sXn m c) (kwg m c)
abbrev sUp := rCol (sXn m c) (kwu m c)
abbrev sSig := rSig (sGate m c)
abbrev sSilu := rSilu (sGate m c) (sSig m c)

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![0, 0] ∧ win0_9.index t = ![0, 0] ∧ win0_10.index t = ![t.val, 0] ∧
    win0_11.index t = ![t.val, 0] ∧ win0_12.index t = ![t.val, 0] ∧ win0_13.index t = ![t.val, 0] ∧ win0_14.index t = ![0, 0] ∧
    t.val < 16 :=
  (by decide +kernel : ∀ t : Fin grid0.N, _)

/-- Row `i` of point `t`'s block. -/
def row (t : Fin cfg0.N) (i : Fin 256) : Fin 4096 := ⟨t.val * 256 + i.val, by have := (idx t).2.2.2.2.2.2.2.2.2.2.2.2.2.2.2; omega⟩

theorem row_val (t : Fin cfg0.N) (i : Fin 256) : (row t i).val = t.val * 256 + i.val := rfl

variable (t : Fin cfg0.N)

theorem V21 : (V m c main_v21 : FVec Ideal S4096x1024 .bf16) = kdx m c := by entry_read; rfl
theorem V7 : (V m c main_v7 : FVec Ideal S4096x1 .f32) = sInv m c := by entry_read; rfl
theorem V22 : (V m c main_v22 : FVec Ideal S1x1024 .f32) = shapeCast S1x1024 (kg m c) shapeCasts_S1024_S1x1024 := by entry_read; rfl
theorem V23 : (V m c main_v23 : FVec Ideal S4096x2816 .bf16)
    = rDgate (sGate m c) (sSig m c) (rSigD (sSig m c)) (mulf rOne (sUp m c)) := by entry_read; rfl
theorem V24 : (V m c main_v24 : FVec Ideal S4096x2816 .bf16) = mulf (sSilu m c) rOne := by entry_read; rfl
theorem V26 : (V m c main_v26 : FVec Ideal S2816x1024 .bf16)
    = transpose S2816x1024 [1, 0] (kwg m c) transposes_S1024x2816_S2816x1024_1_0 := by entry_read; rfl
theorem V28 : (V m c main_v28 : FVec Ideal S2816x1024 .bf16)
    = transpose S2816x1024 [1, 0] (kwu m c) transposes_S1024x2816_S2816x1024_1_0 := by entry_read; rfl
theorem V29 : (V m c main_v29 : FVec Ideal S2816x1024 .bf16) = kwd m c := by entry_read; rfl

theorem blk0 (i : Fin 256) (e : Fin 1024) : iblk m c 0 t (ix2 i e) = kdx m c (ix2 (row t i) e) := by
  have a0 := row_val t i
  blk_ext [iblk, V, idx t]
theorem blk1 (i : Fin 256) (e : Fin 1024) : iblk m c 1 t (ix2 i e) = kdx m c (ix2 (row t i) e) := by
  have a0 := row_val t i
  rw [← V21 m c]
  blk_ext [iblk, idx t]
theorem blk2 (i : Fin 256) (e : Fin 1024) : iblk m c 2 t (ix2 i e) = kx m c (ix2 (row t i) e) := by
  have a0 := row_val t i
  blk_ext [iblk, V, idx t]
theorem blk3 (i : Fin 256) : iblk m c 3 t (ix2 i 0) = sInv m c (ix2 (row t i) 0) := by
  have a0 := row_val t i
  rw [← V7 m c]
  blk_ext [iblk, idx t]
theorem blk4 (e : Fin 1024) : iblk m c 4 t (ix2 0 e) = kg m c (ix1 e) := by
  have a0 : iblk m c 4 t (ix2 0 e) = V m c main_v22 (ix2 0 e) := by blk_ext [iblk, idx t]
  rw [a0, V22 m c]
  pointwise
theorem blk5 (i : Fin 256) (e : Fin 2816) : iblk m c 5 t (ix2 i e)
    = rDgate (sGate m c) (sSig m c) (rSigD (sSig m c)) (mulf rOne (sUp m c)) (ix2 (row t i) e) := by
  have a0 := row_val t i
  rw [← V23 m c]
  blk_ext [iblk, idx t]
theorem blk6 (i : Fin 256) (e : Fin 2816) : iblk m c 6 t (ix2 i e) = mulf (sSilu m c) rOne (ix2 (row t i) e) := by
  have a0 := row_val t i
  rw [← V24 m c]
  blk_ext [iblk, idx t]
theorem blk7 (e : Fin 2816) (d : Fin 1024) : iblk m c 7 t (ix2 e d) = kwg m c (ix2 d e) := by
  have a0 : iblk m c 7 t (ix2 e d) = V m c main_v26 (ix2 e d) := by blk_ext [iblk, idx t]
  rw [a0, V26 m c]
  pointwise
theorem blk8 (e : Fin 2816) (d : Fin 1024) : iblk m c 8 t (ix2 e d) = kwu m c (ix2 d e) := by
  have a0 : iblk m c 8 t (ix2 e d) = V m c main_v28 (ix2 e d) := by blk_ext [iblk, idx t]
  rw [a0, V28 m c]
  pointwise
theorem blk9 : iblk m c 9 t = kwd m c := by rw [← V29 m c]; blk_ext! [iblk, idx t]

section
variable (dx x : Vec Ideal S256x1024 .f32) (r : Vec Ideal S256x1 .f32) (g acc : Vec Ideal S1x1024 .f32)
variable (dg du : Vec Ideal S256x2816 .bf16) (wg wu : Vec Ideal S2816x1024 .bf16) (i : Fin 256) (e : Fin 1024)

theorem dx_apply : k0_pay1 dx (k0_pay42 r) (k0_pay43 dg wg du wu g) (k0_pay44 x r) (k0_pay45 dg wg du wu x r g) (ix2 i e)
    = dx (ix2 i e) + r (ix2 i 0) * (((∑ y, dg (ix2 i y) * wg (ix2 y e)) + ∑ y, du (ix2 i y) * wu (ix2 y e)) * g (ix2 0 e)
        - x (ix2 i e) * r (ix2 i 0) * Ideal.div (∑ l, ((∑ y, dg (ix2 i y) * wg (ix2 y l)) + ∑ y, du (ix2 i y) * wu (ix2 y l))
            * g (ix2 0 l) * (x (ix2 i l) * r (ix2 i 0))) (Ideal.ofBits .f32 0x44800000#32)) := by
  pointwise [k0_pay1, k0_pay41, k0_pay42, k0_pay43, k0_pay44, k0_pay45]

theorem dgain_apply : k0_pay3 (k0_pay41 dg wg du wu) (k0_pay44 x r) acc (ix2 0 e)
    = acc (ix2 0 e) + ∑ i, ((∑ y, dg (ix2 i y) * wg (ix2 y e)) + ∑ y, du (ix2 i y) * wu (ix2 y e)) * (x (ix2 i e) * r (ix2 i 0)) := by
  pointwise [k0_pay3, k0_pay41, k0_pay42, k0_pay44]

end

end Cert.FfnIdeal.Hand
end
-- ==== Proof.FfnFinal.lean ====
module

public import proofs.«01_k».proof.Proof.FfnMath
public import proofs.«01_k».proof.Proof.FfnWinX
public import proofs.«01_k».proof.Proof.FfnBlocks

@[expose] public section

/-! The five arrays the kernel leaves are the reference's stages at the program's arrays, where those arrays are real. -/

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen
open Cert.Reals
open Cert.Cells (ex_ix2)
open Cert.AttnRefIdeal.Hand (rVar rInv rXhat rW rC rDx rDgain rVar_apply rInv_apply rXhat_apply rW_apply rC_apply rDx_apply rDgain_apply)
open Cert.FfnRefIdeal.Hand

/-- A sum over the points and the rows of their blocks is a sum over the rows. -/
theorem sum_rows {N : Nat} (hN : N = 16) (F : Fin 4096 → EReal) (r : Fin N → Fin 256 → Fin 4096)
    (hr : ∀ t i, (r t i).val = t.val * 256 + i.val) : ∑ t, ∑ i, F (r t i) = ∑ s, F s := by
  subst hN
  have h := Fin.sum_univ_univ_mul_add 16 256 fun n => if h : n < 4096 then F ⟨n, h⟩ else 0
  calc ∑ t, ∑ i, F (r t i) = _ := Finset.sum_congr rfl fun t _ => Finset.sum_congr rfl fun i _ => by
        rw [← hr t i, dif_pos (r t i).isLt]
    _ = _ := h
    _ = ∑ s : Fin 4096, F s := Finset.sum_congr rfl fun s _ => dif_pos s.isLt

variable (m : (ℓ : Loc nD τ sig) → Buf (Elt Ideal) ℓ) (c : Dev nD)

/-- The stages of the gradient at the program's arrays. -/
abbrev sDh := rDh (kwd m c) (kdx m c)
abbrev sDg := rDgate (sGate m c) (sSig m c) (rSigD (sSig m c)) (mulf (sDh m c) (sUp m c))
abbrev sDu := mulf (sSilu m c) (sDh m c)
abbrev sDxn := rDxn (kwg m c) (kwu m c) (sDg m c) (sDu m c)
abbrev sW := rW (kg m c) (sDxn m c)

/-- The gain, the up projection's and the last weight and the gradient given are real. -/
structure Real : Prop where
  g : ∀ i, IsR (kg m c i)
  wu : ∀ i, IsR (kwu m c i)
  wd : ∀ i, IsR (kwd m c i)
  dx : ∀ i, IsR (kdx m c i)

variable (t : Fin cfg0.N)

theorem dcol_row (z : S256x2816.Idx → EReal) (i : Fin 256) (e : Fin 2816) :
    dcol (iblk m c 1 t) (iblk m c 9 t) z i e = sDh m c (ix2 (row t i) e) * z (ix2 i e) := by
  refine congrArg (· * z (ix2 i e)) (Eq.trans ?_ (rDh_apply ..).symm)
  exact Finset.sum_congr rfl fun y _ => by rw [blk1, blk9]

theorem du_at (i : Fin 256) (e : Fin 2816) : (outsAt0 m c t.val t.isLt).2.2.2.1 (ix2 i e) = sDu m c (ix2 (row t i) e) := by
  have a0 : (outsAt0 m c t.val t.isLt).2.2.2.1 (ix2 i e) = dcol (iblk m c 1 t) (iblk m c 9 t) (iblk m c 6 t) i e := by
    by_cases h : t.val % 16 = 0
    · exact du_at_A m c t i e h
    · exact du_at_B m c t i e h
  rw [a0, dcol_row, blk6]
  show sDh m c (ix2 (row t i) e) * (sSilu m c (ix2 (row t i) e) * rOne (ix2 (row t i) e)) = sSilu m c (ix2 (row t i) e) * sDh m c (ix2 (row t i) e)
  rw [rOne_apply, lit_one, mul_one, mul_comm]

section
variable {m c} (hr : Real m c)
include hr

theorem dg_at (i : Fin 256) (e : Fin 2816) : (outsAt0 m c t.val t.isLt).2.2.1 (ix2 i e) = sDg m c (ix2 (row t i) e) := by
  have a0 : (outsAt0 m c t.val t.isLt).2.2.1 (ix2 i e) = dcol (iblk m c 1 t) (iblk m c 9 t) (iblk m c 5 t) i e := by
    by_cases h : t.val % 16 = 0
    · exact dg_at_A m c t i e h
    · exact dg_at_B m c t i e h
  have hn := xn_real (kx m c) _ hr.g
  obtain ⟨hs, hg⟩ := sig_cases (sGate m c) (row t i) e
  rw [a0, dcol_row, blk5, rDgate_apply]
  refine Eq.trans ?_ (rDgate_apply ..).symm
  rw [rSigD_apply]
  show sDh m c (ix2 (row t i) e) * (rOne (ix2 (row t i) e) * sUp m c (ix2 (row t i) e) * sSig m c (ix2 (row t i) e)
      + sGate m c (ix2 (row t i) e) * (rOne (ix2 (row t i) e) * sUp m c (ix2 (row t i) e)) * (sSig m c (ix2 (row t i) e) * (Ideal.ofBits .f32 0x3F800000#32 - sSig m c (ix2 (row t i) e))))
    = sDh m c (ix2 (row t i) e) * sUp m c (ix2 (row t i) e) * sSig m c (ix2 (row t i) e)
      + sGate m c (ix2 (row t i) e) * (sDh m c (ix2 (row t i) e) * sUp m c (ix2 (row t i) e)) * (sSig m c (ix2 (row t i) e) * (Ideal.ofBits .f32 0x3F800000#32 - sSig m c (ix2 (row t i) e)))
  rw [rOne_apply, lit_one]
  exact gate_grad (dh_real _ _ hr.dx hr.wd _) (col_real _ _ hn hr.wu _) hs hg

theorem dxn_at (i : Fin 256) (e : Fin 1024) :
    (∑ y, (outsAt0 m c t.val t.isLt).2.2.1 (ix2 i y) * iblk m c 7 t (ix2 y e))
      + ∑ y, (outsAt0 m c t.val t.isLt).2.2.2.1 (ix2 i y) * iblk m c 8 t (ix2 y e) = sDxn m c (ix2 (row t i) e) := by
  refine Eq.trans ?_ (rDxn_apply ..).symm
  rw [add_comm]
  exact congrArg₂ (· + ·) (Finset.sum_congr rfl fun y _ => by rw [du_at, blk8]) (Finset.sum_congr rfl fun y _ => by rw [dg_at t hr, blk7])

theorem dx_at (i : Fin 256) (e : Fin 1024) : (outsAt0 m c t.val t.isLt).1 (ix2 i e)
    = rDx (kx m c) (kdx m c) (sInv m c) (sW m c) (rC (kx m c) (rVar (kx m c)) (sInv m c) (sW m c)) (ix2 (row t i) e) := by
  have a0 : (outsAt0 m c t.val t.isLt).1
      = k0_pay1 (iblk m c 0 t) (k0_pay42 (iblk m c 3 t)) (k0_pay43 (outsAt0 m c t.val t.isLt).2.2.1 (iblk m c 7 t) (outsAt0 m c t.val t.isLt).2.2.2.1 (iblk m c 8 t) (iblk m c 4 t))
      (k0_pay44 (iblk m c 2 t) (iblk m c 3 t)) (k0_pay45 (outsAt0 m c t.val t.isLt).2.2.1 (iblk m c 7 t) (outsAt0 m c t.val t.isLt).2.2.2.1 (iblk m c 8 t) (iblk m c 2 t) (iblk m c 3 t) (iblk m c 4 t)) := by
    by_cases h : t.val % 16 = 0
    · exact dx_eq_A m c t h
    · exact dx_eq_B m c t h
  rw [a0, dx_apply, ← dx_eq]
  simp only [dxn_at t hr, blk0, blk2, blk3, blk4]

end

/-- What a point adds to the gradient of the gain. -/
def dgB (e : Fin 1024) : EReal := ∑ i, sXhat m c (ix2 (row t i) e) * sDxn m c (ix2 (row t i) e)

theorem dg_add (hr : Real m c) (acc : S1x1024.Idx → EReal) (e : Fin 1024) :
    k0_pay3 (k0_pay41 (outsAt0 m c t.val t.isLt).2.2.1 (iblk m c 7 t) (outsAt0 m c t.val t.isLt).2.2.2.1 (iblk m c 8 t))
      (k0_pay44 (iblk m c 2 t) (iblk m c 3 t)) acc (ix2 0 e) = acc (ix2 0 e) + dgB m c t e := by
  rw [dgain_apply]
  congr 1
  refine Finset.sum_congr rfl fun i _ => ?_
  rw [dxn_at t hr, blk2, blk3, mul_comm]
  exact (congrArg (· * _) (rXhat_apply ..)).symm

theorem dg_last (hr : Real m c) (e : Fin 1024) :
    (outsAt0 m c t0_15.val t0_15.isLt).2.2.2.2 (ix2 0 e) = rDgain (sXhat m c) (sDxn m c) (ix2 0 e) := by
  have a0 := Pipeline.eq_sum_fin_of_reset_step_apply_last (fun n' h (_ : Unit) => (outsAt0 m c n' h).2.2.2.2 (ix2 0 e)) 16 (fun _ => (0 : EReal))
    (fun t _ => dgB m c t e)
    (fun t h _ => by
      show (outsAt0 m c t.val t.isLt).2.2.2.2 (ix2 0 e) = _
      rw [dgain_eq_A m c t h, dg_add m c t hr]
      congr 1
      pointwise [k0_pay4])
    (fun t h _ => by
      show (outsAt0 m c t.val t.isLt).2.2.2.2 (ix2 0 e) = _
      rw [dgain_eq_B m c t h, dg_add m c t hr]) (le_of_eq N_0) t0_15 rfl ()
  refine a0.trans ?_
  rw [zero_add, rDgain_apply]
  exact sum_rows N_0 (fun s => sXhat m c (ix2 s e) * sDxn m c (ix2 s e)) row row_val

/-! ## The arrays after the run -/

theorem final10 (hr : Real m c) : (dats m 0 c).arrAt 10 cfg0.N
    = rDx (kx m c) (kdx m c) (sInv m c) (sW m c) (rC (kx m c) (rVar (kx m c)) (sInv m c) (sW m c)) := by
  refine (dats m 0 c).arrAt_eq_of_covers 10 _ (by decide +kernel) fun t hf y => ?_
  blk_simp
  rw [after0_10]
  obtain ⟨i, e, rfl⟩ := ex_ix2 y
  refine (dx_at t hr i e).trans ?_
  have a0 := row_val t i
  blk_ext [idx t]

theorem final11 (hr : Real m c) : (dats m 0 c).arrAt 11 cfg0.N
    = rDx (kx m c) (kdx m c) (sInv m c) (sW m c) (rC (kx m c) (rVar (kx m c)) (sInv m c) (sW m c)) := by
  refine (dats m 0 c).arrAt_eq_of_covers 11 _ (by decide +kernel) fun t hf y => ?_
  blk_simp
  rw [after0_11]
  obtain ⟨i, e, rfl⟩ := ex_ix2 y
  have a1 : (outsAt0 m c t.val t.isLt).2.1 = (outsAt0 m c t.val t.isLt).1 := by
    by_cases h : t.val % 16 = 0
    · exact dxb_eq_A m c t h
    · exact dxb_eq_B m c t h
  refine (congrFun a1 _).trans ((dx_at t hr i e).trans ?_)
  have a0 := row_val t i
  blk_ext [idx t]

theorem final12 (hr : Real m c) : (dats m 0 c).arrAt 12 cfg0.N = sDg m c := by
  refine (dats m 0 c).arrAt_eq_of_covers 12 _ (by decide +kernel) fun t hf y => ?_
  blk_simp
  rw [after0_12]
  obtain ⟨i, e, rfl⟩ := ex_ix2 y
  refine (dg_at t hr i e).trans ?_
  have a0 := row_val t i
  blk_ext [idx t]

theorem final13 : (dats m 0 c).arrAt 13 cfg0.N = sDu m c := by
  refine (dats m 0 c).arrAt_eq_of_covers 13 _ (by decide +kernel) fun t hf y => ?_
  blk_simp
  rw [after0_13]
  obtain ⟨i, e, rfl⟩ := ex_ix2 y
  refine (du_at m c t i e).trans ?_
  have a0 := row_val t i
  blk_ext [idx t]

theorem final14 (hr : Real m c) : (dats m 0 c).arrAt 14 cfg0.N = rDgain (sXhat m c) (sDxn m c) := by
  refine (dats m 0 c).arrAt_eq_of_after_last 14 t0_15 (by decide +kernel) _ fun y => ?_
  blk_simp
  rw [after0_14]
  obtain ⟨i, e, rfl⟩ := ex_ix2 y
  obtain rfl : i = 0 := Subsingleton.elim _ _
  exact dg_last m c hr e

end Cert.FfnIdeal.Hand
end
-- ==== Proof.FfnClaim.lean ====
module

public import proofs.«01_k».proof.Proof.FfnFinal
public import proofs.«01_k».proof.Defs
public import proofs.«01_k».proof.Proof.Gen.Pre_finite_block
public import proofs.«01_k».proof.Proof.Gen.FfnIdeal.Value
public import proofs.«01_k».proof.Proof.Gen.FfnRefIdeal.Run
public import Idealize.ShloMosaic.Adequacy
public import Idealize.ShloMosaic.Init

@[expose] public section

/-! The feed forward layer's gradient: the kernel and the reference leave equal arrays where the gain, two of
the weights and the gradient given are real. -/

set_option maxRecDepth 16384

noncomputable section

namespace Cert.FfnRefIdeal.Hand

open Idealize.ShloMosaic Idealize.ShloMosaic.TcCoe Idealize.ShloMosaic.StableHlo Idealize.SL.Sem
open Cert.FfnRefIdeal Cert.FfnRefIdeal.Gen Cert.FfnRefIdeal.Value
open Cert.AttnRefIdeal.Hand (rVar rInv rXhat rW rC rDx rDgain)

variable (m : (ℓ : Loc nD τ sig) → Buf (Elt Ideal) ℓ) (c : Dev nD)

/-- The reference's arrays. -/
abbrev ax : FVec Ideal S4096x1024 .f32 := m ((c.tc : Thread nD τ).loc main_arg0)
abbrev ag : FVec Ideal S1024 .f32 := m ((c.tc : Thread nD τ).loc main_arg1)
abbrev awg : FVec Ideal S1024x2816 .f32 := m ((c.tc : Thread nD τ).loc main_arg2)
abbrev awu : FVec Ideal S1024x2816 .f32 := m ((c.tc : Thread nD τ).loc main_arg3)
abbrev awd : FVec Ideal S2816x1024 .f32 := m ((c.tc : Thread nD τ).loc main_arg4)
abbrev adx : FVec Ideal S4096x1024 .f32 := m ((c.tc : Thread nD τ).loc main_arg5)

/-- The stages, as functions of the arrays. -/
def dgOf (x : FVec Ideal S4096x1024 .f32) (g : FVec Ideal S1024 .f32) (wg wu : FVec Ideal S1024x2816 .f32)
    (wd : FVec Ideal S2816x1024 .f32) (dx : FVec Ideal S4096x1024 .f32) : FVec Ideal S4096x2816 .f32 :=
  rDgate (rCol (rXn g (rXhat x (rInv (rVar x)))) wg) (rSig (rCol (rXn g (rXhat x (rInv (rVar x)))) wg))
    (rSigD (rSig (rCol (rXn g (rXhat x (rInv (rVar x)))) wg))) (mulf (rDh wd dx) (rCol (rXn g (rXhat x (rInv (rVar x)))) wu))
def duOf (x : FVec Ideal S4096x1024 .f32) (g : FVec Ideal S1024 .f32) (wg : FVec Ideal S1024x2816 .f32)
    (wd : FVec Ideal S2816x1024 .f32) (dx : FVec Ideal S4096x1024 .f32) : FVec Ideal S4096x2816 .f32 :=
  mulf (rSilu (rCol (rXn g (rXhat x (rInv (rVar x)))) wg) (rSig (rCol (rXn g (rXhat x (rInv (rVar x)))) wg))) (rDh wd dx)
def dxnOf (x : FVec Ideal S4096x1024 .f32) (g : FVec Ideal S1024 .f32) (wg wu : FVec Ideal S1024x2816 .f32)
    (wd : FVec Ideal S2816x1024 .f32) (dx : FVec Ideal S4096x1024 .f32) : FVec Ideal S4096x1024 .f32 :=
  rDxn wg wu (dgOf x g wg wu wd dx) (duOf x g wg wd dx)
def dxOf (x : FVec Ideal S4096x1024 .f32) (g : FVec Ideal S1024 .f32) (wg wu : FVec Ideal S1024x2816 .f32)
    (wd : FVec Ideal S2816x1024 .f32) (dx : FVec Ideal S4096x1024 .f32) : FVec Ideal S4096x1024 .f32 :=
  rDx x dx (rInv (rVar x)) (rW g (dxnOf x g wg wu wd dx)) (rC x (rVar x) (rInv (rVar x)) (rW g (dxnOf x g wg wu wd dx)))
def dgainOf (x : FVec Ideal S4096x1024 .f32) (g : FVec Ideal S1024 .f32) (wg wu : FVec Ideal S1024x2816 .f32)
    (wd : FVec Ideal S2816x1024 .f32) (dx : FVec Ideal S4096x1024 .f32) : FVec Ideal S1x1024 .f32 :=
  rDgain (rXhat x (rInv (rVar x))) (dxnOf x g wg wu wd dx)

theorem res0 : res_out0 m c = dxOf (ax m c) (ag m c) (awg m c) (awu m c) (awd m c) (adx m c) := rfl
theorem res1 : res_out1 m c = truncf .bf16 (dxOf (ax m c) (ag m c) (awg m c) (awu m c) (awd m c) (adx m c)) bitsLt_bf16_f32 := rfl
theorem res2 : res_out2 m c = truncf .bf16 (dgOf (ax m c) (ag m c) (awg m c) (awu m c) (awd m c) (adx m c)) bitsLt_bf16_f32 := rfl
theorem res4 : res_out4 m c = dgainOf (ax m c) (ag m c) (awg m c) (awu m c) (awd m c) (adx m c) := rfl

end Cert.FfnRefIdeal.Hand

namespace Cert.FfnIdeal.Hand

open Idealize.ShloMosaic Idealize.ShloMosaic.TcCoe Idealize.SL.Sem
open Cert.Reals

/-- The precondition says that four of the arrays are real. -/
theorem real_of_pre (m : (ℓ : Loc nD τ sig) → Buf (Elt Ideal) ℓ) (h : Cert.Pre_FfnIdeal_finite_block m) (c : Dev nD) : Real m c := by
  obtain ⟨h0, h1, h2, h3⟩ := h c
  exact ⟨fun i => isR_of_abs_lt (congrFun h0 i), fun i => isR_of_abs_lt (congrFun h1 i), fun i => isR_of_abs_lt (congrFun h2 i),
    fun i => isR_of_abs_lt (congrFun h3 i)⟩

open Cert.FfnRefIdeal.Hand in
theorem algebraic : Cert.algebraic_FfnIdeal_FfnRefIdeal_pre_finite_block := by
  intro m g m' g' hp hm
  refine ⟨_, _, _, _, _, Cert.FfnIdeal.Value.run_blocks m g, ?_⟩
  refine (θ_run _ _ _).mono (fun r h c => ?_) (Cert.FfnRefIdeal.Value.run m' g')
  obtain ⟨e0, e1, e2, e3, e4, e5⟩ := h c
  obtain ⟨h0, h1, h2, h3, h4, h5⟩ := hm c
  have hr := real_of_pre m hp c
  have b0 : ax m' c = kx m c := h0
  have b1 : ag m' c = kg m c := h1
  have b2 : awg m' c = kwg m c := h2
  have b3 : awu m' c = kwu m c := h3
  have b4 : awd m' c = kwd m c := h4
  have b5 : adx m' c = kdx m c := h5
  refine ⟨e0.trans ?_, e1.trans ?_, e2.trans ?_, e3.trans ?_, e4.trans ?_, e5⟩
  · rw [final10 m c hr]
    refine (Cert.FfnRefIdeal.Hand.res0 m' c).trans ?_
    rw [b0, b1, b2, b3, b4, b5]
    rfl
  · rw [final11 m c hr]
    refine (Cert.FfnRefIdeal.Hand.res1 m' c).trans ?_
    rw [b0, b1, b2, b3, b4, b5]
    rfl
  · rw [final12 m c hr]
    refine (Cert.FfnRefIdeal.Hand.res2 m' c).trans ?_
    rw [b0, b1, b2, b3, b4, b5]
    rfl
  · rw [final13 m c]
    show truncf .bf16 (duOf (ax m' c) (ag m' c) (awg m' c) (awd m' c) (adx m' c)) Cert.FfnRefIdeal.Gen.bitsLt_bf16_f32 = _
    rw [b0, b1, b2, b4, b5]
    rfl
  · rw [final14 m c hr]
    refine (Cert.FfnRefIdeal.Hand.res4 m' c).trans ?_
    rw [b0, b1, b2, b3, b4, b5]
    rfl

end Cert.FfnIdeal.Hand
end
-- ==== Proof.FfnFWin.lean ====
module

public import proofs.«01_k».proof.Proof.Cells
public import proofs.«01_k».proof.Proof.Gen.FfnFIdeal.Value
public import Idealize.ShloMosaic.Lib.Pipeline.ReadBack

@[expose] public section

/-! What each grid point of the feed forward layer's kernel leaves in its output blocks: the normalised rows, and from them
the gate, the up projection and the arrays saved for the gradient, written in eleven pieces of columns. -/

set_option maxRecDepth 16384

noncomputable section

namespace Cert.FfnFIdeal.Hand

open Idealize.ShloMosaic Idealize.ShloMosaic.TcCoe Idealize.SL.Sem
open Idealize.ShloMosaic.Pipeline (Dat)
open Cert.FfnFIdeal Cert.FfnFIdeal.Gen
open Cert.Cells (ex_ix2 readCov_canon)

section
variable (x : S512x1024.Idx → EReal) (g : S1x1024.Idx → EReal) (wg wu : S2816x1024.Idx → EReal) (i : Fin 512) (e : Fin 2816)

/-- The norm's factor of a row. -/
def invB : EReal :=
  Ideal.rsqrt (Ideal.div (∑ y, x (ix2 i y) * x (ix2 i y)) (Ideal.ofBits .f32 0x44800000#32) + Ideal.ofBits .f32 0x358637BD#32)
/-- The normalised row with its gain. -/
def xnB (y : Fin 1024) : EReal := x (ix2 i y) * invB x i * g (ix2 0 y)
/-- The row times a column of a weight. -/
def colB (w : S2816x1024.Idx → EReal) : EReal := ∑ y, xnB x g i y * w (ix2 e y)
/-- The logistic function, as the kernel writes it. -/
def sigB (a : EReal) : EReal := Ideal.div (Ideal.ofBits .f32 0x3F800000#32) (Ideal.ofBits .f32 0x3F800000#32 + Ideal.exp (0 - a))
/-- The activation. -/
def siluB : EReal := colB x g i e wg * sigB (colB x g i e wg)
/-- The saved derivative in the gate. -/
def dgB : EReal := colB x g i e wu * (sigB (colB x g i e wg) + siluB x g wg i e * (Ideal.ofBits .f32 0x3F800000#32 - sigB (colB x g i e wg)))

end

variable (m : (ℓ : Loc nD τ sig) → Buf (Elt Ideal) ℓ) (c : Dev nD) (t : Fin cfg0.N)

theorem inv_at (i : Fin 512) : (outsAt0 m c t).2.2.1 (ix2 i 0) = invB (iblk m c 0 t) i := by
  unfold outsAt0
  frame_out
  pointwise [invB, k0_pay1]

theorem xn_at (i : Fin 512) (e : Fin 1024) : (outsAt0 m c t).2.1 (ix2 i e) = xnB (iblk m c 0 t) (iblk m c 1 t) i e := by
  unfold outsAt0
  frame_out
  pointwise [xnB, invB, k0_pay1, k0_pay2]

theorem out_eq : (outsAt0 m c t).1 = k0_pay83 (iblk m c 0 t) (outsAt0 m c t).2.2.2.2.2 (iblk m c 4 t) := by
  unfold outsAt0
  frame_out
  rw [readCov_canon _ _ _ (by decide)]

theorem out_apply (x : Vec Ideal S512x1024 .f32) (h : Vec Ideal S512x2816 .bf16) (w : Vec Ideal S2816x1024 .bf16) (i : Fin 512)
    (e : Fin 1024) : k0_pay83 x h w (ix2 i e) = x (ix2 i e) + ∑ y, h (ix2 i y) * w (ix2 y e) := by
  pointwise [k0_pay83]

end Cert.FfnFIdeal.Hand
end
-- ==== Proof.FfnFWinG.lean ====
module

public import proofs.«01_k».proof.Proof.FfnFWin

@[expose] public section

/-! The block of the derivative in the gate that a grid point of the feed forward layer's kernel leaves. -/

set_option maxRecDepth 16384

noncomputable section

namespace Cert.FfnFIdeal.Hand

open Idealize.ShloMosaic Idealize.ShloMosaic.TcCoe Idealize.SL.Sem
open Idealize.ShloMosaic.Pipeline (Dat)
open Cert.FfnFIdeal Cert.FfnFIdeal.Gen
open Cert.Cells (ex_ix2)

variable (m : (ℓ : Loc nD τ sig) → Buf (Elt Ideal) ℓ) (c : Dev nD) (t : Fin cfg0.N)

theorem dg_at (i : Fin 512) (e : Fin 2816) : (outsAt0 m c t).2.2.2.1 (ix2 i e)
    = dgB (iblk m c 0 t) (iblk m c 1 t) (iblk m c 2 t) (iblk m c 3 t) i e := by
  unfold outsAt0
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [dgB, colB, xnB, invB, sigB, siluB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]

end Cert.FfnFIdeal.Hand
end
-- ==== Proof.FfnFWinS.lean ====
module

public import proofs.«01_k».proof.Proof.FfnFWin

@[expose] public section

/-! The block of the activation that a grid point of the feed forward layer's kernel leaves. -/

set_option maxRecDepth 16384

noncomputable section

namespace Cert.FfnFIdeal.Hand

open Idealize.ShloMosaic Idealize.ShloMosaic.TcCoe Idealize.SL.Sem
open Idealize.ShloMosaic.Pipeline (Dat)
open Cert.FfnFIdeal Cert.FfnFIdeal.Gen
open Cert.Cells (ex_ix2)

variable (m : (ℓ : Loc nD τ sig) → Buf (Elt Ideal) ℓ) (c : Dev nD) (t : Fin cfg0.N)

theorem silu_at (i : Fin 512) (e : Fin 2816) : (outsAt0 m c t).2.2.2.2.1 (ix2 i e)
    = siluB (iblk m c 0 t) (iblk m c 1 t) (iblk m c 2 t) i e := by
  unfold outsAt0
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [colB, xnB, invB, sigB, siluB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]

end Cert.FfnFIdeal.Hand
end
-- ==== Proof.FfnFWinH.lean ====
module

public import proofs.«01_k».proof.Proof.FfnFWin

@[expose] public section

/-! The block of the hidden activations that a grid point of the feed forward layer's kernel leaves. -/

set_option maxRecDepth 16384

noncomputable section

namespace Cert.FfnFIdeal.Hand

open Idealize.ShloMosaic Idealize.ShloMosaic.TcCoe Idealize.SL.Sem
open Idealize.ShloMosaic.Pipeline (Dat)
open Cert.FfnFIdeal Cert.FfnFIdeal.Gen
open Cert.Cells (ex_ix2)

variable (m : (ℓ : Loc nD τ sig) → Buf (Elt Ideal) ℓ) (c : Dev nD) (t : Fin cfg0.N)

theorem hid_at (i : Fin 512) (e : Fin 2816) : (outsAt0 m c t).2.2.2.2.2 (ix2 i e)
    = siluB (iblk m c 0 t) (iblk m c 1 t) (iblk m c 2 t) i e * colB (iblk m c 0 t) (iblk m c 1 t) i e (iblk m c 3 t) := by
  unfold outsAt0
  frame_open
  simp (disch := decide) only [↓ View.readCov_skip, ↓ View.readCov_fill]
  frame_out
  generalize hy : ix2 i e = y
  canon_tiles x hh
  all_goals
    obtain ⟨a, b, rfl⟩ := ex_ix2 x
    subst hy
    obtain rfl : i = a := Fin.ext hh0
    obtain ⟨e, he⟩ := e
    first
      | have h2 : e = _ + b.val := hh1
        subst h2
      | have h2 : e = b.val := hh1
        subst h2
    pointwise [colB, xnB, invB, sigB, siluB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82]

end Cert.FfnFIdeal.Hand
end
-- ==== Proof.FfnFFinal.lean ====
module

public import proofs.«01_k».proof.Proof.FfnFWinG
public import proofs.«01_k».proof.Proof.FfnFWinS
public import proofs.«01_k».proof.Proof.FfnFWinH
public import proofs.«01_k».proof.Proof.FfnMath
public import proofs.«01_k».proof.Proof.Gen.FfnFRefIdeal

@[expose] public section

/-! The six arrays the feed forward layer's kernel leaves are the reference's stages at the program's arrays, the saved
derivative in the gate where the gain and the up projection's weight are real. Point `t` works on rows `512 t … 512 t + 511`; the
three weights and the gain are whole at every point. -/

set_option maxRecDepth 16384

noncomputable section

namespace Cert.FfnFIdeal.Hand

open Idealize.ShloMosaic Idealize.ShloMosaic.TcCoe Idealize.SL.Sem
open Idealize.ShloMosaic.Pipeline (Dat)
open Cert.FfnFIdeal Cert.FfnFIdeal.Gen
open Cert.Reals
open Cert.Cells (ex_ix2)
open Cert.AttnRefIdeal.Hand (rVar rInv rXhat rVar_apply rInv_apply rXhat_apply)
open Cert.FfnRefIdeal.Hand

/-- The layer's output. -/
def rOut (x : FVec Ideal S4096x1024 .f32) (h : FVec Ideal S4096x2816 .f32) (w : FVec Ideal S2816x1024 .f32) : FVec Ideal S4096x1024 .f32 :=
  addf x (Host.dotGeneral Cert.FfnFRefIdeal.dot_S4096x2816_S2816x1024_S4096x1024_1_0_0_1_n_n none h w)

theorem rOut_apply (x : FVec Ideal S4096x1024 .f32) (h : FVec Ideal S4096x2816 .f32) (w : FVec Ideal S2816x1024 .f32)
    (s : Fin 4096) (d : Fin 1024) : rOut x h w (ix2 s d) = x (ix2 s d) + ∑ e, h (ix2 s e) * w (ix2 e d) := by
  pointwise [rOut]

variable (m : (ℓ : Loc nD τ sig) → Buf (Elt Ideal) ℓ) (c : Dev nD)

/-- The program's arrays. -/
abbrev kx : FVec Ideal S4096x1024 .f32 := m ((c : Thread nD τ).loc main_arg0)
abbrev kg : FVec Ideal S1024 .f32 := m ((c : Thread nD τ).loc main_arg1)
abbrev kwg : FVec Ideal S1024x2816 .f32 := m ((c : Thread nD τ).loc main_arg2)
abbrev kwu : FVec Ideal S1024x2816 .f32 := m ((c : Thread nD τ).loc main_arg3)
abbrev kwd : FVec Ideal S2816x1024 .f32 := m ((c : Thread nD τ).loc main_arg4)

/-- The stages of the layer at the program's arrays. -/
abbrev sInv := rInv (rVar (kx m c))
abbrev sXn := rXn (kg m c) (rXhat (kx m c) (sInv m c))
abbrev sGate := rCol (sXn m c) (kwg m c)
abbrev sUp := rCol (sXn m c) (kwu m c)
abbrev sSig := rSig (sGate m c)
abbrev sSilu := rSilu (sGate m c) (sSig m c)
abbrev sHid := mulf (sSilu m c) (sUp m c)
abbrev sDg := rDgate (sGate m c) (sSig m c) (rSigD (sSig m c)) (mulf rOne (sUp m c))

/-- The gain and the up projection's weight are real. -/
structure Real : Prop where
  g : ∀ i, IsR (kg m c i)
  wu : ∀ i, IsR (kwu m c i)

theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] ∧
    t.val < 8 :=
  (by decide +kernel : ∀ t : Fin grid0.N, _)

/-- Row `i` of point `t`'s block. -/
def row (t : Fin cfg0.N) (i : Fin 512) : Fin 4096 := ⟨t.val * 512 + i.val, by have := (idx t).2.2.2.2.2.2.2.2.2.2.2; omega⟩

theorem row_val (t : Fin cfg0.N) (i : Fin 512) : (row t i).val = t.val * 512 + i.val := rfl

variable (t : Fin cfg0.N)

theorem V0 : (V m c main_v0 : FVec Ideal S1x1024 .f32) = shapeCast S1x1024 (kg m c) shapeCasts_S1024_S1x1024 := by entry_read; rfl
theorem V2 : (V m c main_v2 : FVec Ideal S2816x1024 .bf16)
    = transpose S2816x1024 [1, 0] (kwg m c) transposes_S1024x2816_S2816x1024_1_0 := by entry_read; rfl
theorem V4 : (V m c main_v4 : FVec Ideal S2816x1024 .bf16)
    = transpose S2816x1024 [1, 0] (kwu m c) transposes_S1024x2816_S2816x1024_1_0 := by entry_read; rfl
theorem V5 : (V m c main_v5 : FVec Ideal S2816x1024 .bf16) = kwd m c := by entry_read; rfl

theorem blk0 (i : Fin 512) (e : Fin 1024) : iblk m c 0 t (ix2 i e) = kx m c (ix2 (row t i) e) := by
  have a0 := row_val t i
  blk_ext [iblk, V, idx t]
theorem blk1 (e : Fin 1024) : iblk m c 1 t (ix2 0 e) = kg m c (ix1 e) := by
  have a0 : iblk m c 1 t (ix2 0 e) = V m c main_v0 (ix2 0 e) := by blk_ext [iblk, idx t]
  rw [a0, V0 m c]
  pointwise
theorem blk2 (e : Fin 2816) (d : Fin 1024) : iblk m c 2 t (ix2 e d) = kwg m c (ix2 d e) := by
  have a0 : iblk m c 2 t (ix2 e d) = V m c main_v2 (ix2 e d) := by blk_ext [iblk, idx t]
  rw [a0, V2 m c]
  pointwise
theorem blk3 (e : Fin 2816) (d : Fin 1024) : iblk m c 3 t (ix2 e d) = kwu m c (ix2 d e) := by
  have a0 : iblk m c 3 t (ix2 e d) = V m c main_v4 (ix2 e d) := by blk_ext [iblk, idx t]
  rw [a0, V4 m c]
  pointwise
theorem blk4 : iblk m c 4 t = kwd m c := by rw [← V5 m c]; blk_ext! [iblk, idx t]

/-! ## The stages at a point's rows -/

theorem inv_row (i : Fin 512) : invB (iblk m c 0 t) i = sInv m c (ix2 (row t i) 0) := by
  refine Eq.trans ?_ (rInv_apply ..).symm
  rw [rVar_apply, invB]
  simp only [blk0]

theorem xn_row (i : Fin 512) (e : Fin 1024) : xnB (iblk m c 0 t) (iblk m c 1 t) i e = sXn m c (ix2 (row t i) e) := by
  refine Eq.trans ?_ (rXn_apply ..).symm
  rw [rXhat_apply, xnB, inv_row, blk0, blk1]

theorem gate_row (i : Fin 512) (e : Fin 2816) : colB (iblk m c 0 t) (iblk m c 1 t) i e (iblk m c 2 t) = sGate m c (ix2 (row t i) e) := by
  refine Eq.trans ?_ (rCol_apply ..).symm
  exact Finset.sum_congr rfl fun y _ => by rw [xn_row, blk2]

theorem up_row (i : Fin 512) (e : Fin 2816) : colB (iblk m c 0 t) (iblk m c 1 t) i e (iblk m c 3 t) = sUp m c (ix2 (row t i) e) := by
  refine Eq.trans ?_ (rCol_apply ..).symm
  exact Finset.sum_congr rfl fun y _ => by rw [xn_row, blk3]

theorem sig_row (s : Fin 4096) (e : Fin 2816) : sigB (sGate m c (ix2 s e)) = sSig m c (ix2 s e) := by
  refine Eq.trans ?_ (rSig_apply ..).symm
  rw [sigB, zero_sub]

theorem silu_row (i : Fin 512) (e : Fin 2816) : siluB (iblk m c 0 t) (iblk m c 1 t) (iblk m c 2 t) i e = sSilu m c (ix2 (row t i) e) := by
  refine Eq.trans ?_ (rSilu_apply ..).symm
  rw [siluB, gate_row, sig_row]

theorem hid_row (i : Fin 512) (e : Fin 2816) : (outsAt0 m c t).2.2.2.2.2 (ix2 i e) = sHid m c (ix2 (row t i) e) := by
  rw [hid_at, silu_row, up_row]
  rfl

theorem dg_row (hr : Real m c) (i : Fin 512) (e : Fin 2816) : (outsAt0 m c t).2.2.2.1 (ix2 i e) = sDg m c (ix2 (row t i) e) := by
  have hn := xn_real (kx m c) _ hr.g
  obtain ⟨hs, hg⟩ := sig_cases (sGate m c) (row t i) e
  rw [dg_at, dgB, silu_row, up_row, gate_row, sig_row]
  refine Eq.trans ?_ (rDgate_apply ..).symm
  rw [rSigD_apply, show sSilu m c (ix2 (row t i) e) = sGate m c (ix2 (row t i) e) * sSig m c (ix2 (row t i) e) from rSilu_apply ..]
  show _ = rOne (ix2 (row t i) e) * sUp m c (ix2 (row t i) e) * sSig m c (ix2 (row t i) e)
      + sGate m c (ix2 (row t i) e) * (rOne (ix2 (row t i) e) * sUp m c (ix2 (row t i) e))
        * (sSig m c (ix2 (row t i) e) * (Ideal.ofBits .f32 0x3F800000#32 - sSig m c (ix2 (row t i) e)))
  rw [rOne_apply, lit_one]
  exact gate_saved (col_real _ _ hn hr.wu _) hs hg

theorem out_row (i : Fin 512) (e : Fin 1024) : (outsAt0 m c t).1 (ix2 i e) = rOut (kx m c) (sHid m c) (kwd m c) (ix2 (row t i) e) := by
  rw [out_eq, out_apply, blk0, blk4]
  refine Eq.trans ?_ (rOut_apply ..).symm
  exact congrArg _ (Finset.sum_congr rfl fun y _ => by rw [hid_row])

theorem silu_one (z : FVec Ideal S4096x2816 .f32) (s : Fin 4096) (e : Fin 2816) : z (ix2 s e) = mulf z rOne (ix2 s e) := by
  show _ = z (ix2 s e) * rOne (ix2 s e)
  rw [rOne_apply, lit_one, mul_one]

/-! ## The arrays after the run -/

theorem final5 : (dats m 0 c).arrAt 5 cfg0.N = rOut (kx m c) (sHid m c) (kwd m c) := by
  refine (dats m 0 c).arrAt_eq_of_covers 5 _ (by decide +kernel) fun t hf y => ?_
  blk_simp
  rw [after0_5]
  obtain ⟨i, e, rfl⟩ := ex_ix2 y
  refine (out_row m c t i e).trans ?_
  have a0 := row_val t i
  blk_ext [idx t]

theorem final6 : (dats m 0 c).arrAt 6 cfg0.N = sXn m c := by
  refine (dats m 0 c).arrAt_eq_of_covers 6 _ (by decide +kernel) fun t hf y => ?_
  blk_simp
  rw [after0_6]
  obtain ⟨i, e, rfl⟩ := ex_ix2 y
  refine ((xn_at m c t i e).trans (xn_row m c t i e)).trans ?_
  have a0 := row_val t i
  blk_ext [idx t]

theorem final7 : (dats m 0 c).arrAt 7 cfg0.N = sInv m c := by
  refine (dats m 0 c).arrAt_eq_of_covers 7 _ (by decide +kernel) fun t hf y => ?_
  blk_simp
  rw [after0_7]
  obtain ⟨i, e, rfl⟩ := ex_ix2 y
  obtain rfl : e = 0 := Subsingleton.elim _ _
  refine ((inv_at m c t i).trans (inv_row m c t i)).trans ?_
  have a0 := row_val t i
  blk_ext [idx t]

theorem final8 (hr : Real m c) : (dats m 0 c).arrAt 8 cfg0.N = sDg m c := by
  refine (dats m 0 c).arrAt_eq_of_covers 8 _ (by decide +kernel) fun t hf y => ?_
  blk_simp
  rw [after0_8]
  obtain ⟨i, e, rfl⟩ := ex_ix2 y
  refine (dg_row m c t hr i e).trans ?_
  have a0 := row_val t i
  blk_ext [idx t]

theorem final9 : (dats m 0 c).arrAt 9 cfg0.N = mulf (sSilu m c) rOne := by
  refine (dats m 0 c).arrAt_eq_of_covers 9 _ (by decide +kernel) fun t hf y => ?_
  blk_simp
  rw [after0_9]
  obtain ⟨i, e, rfl⟩ := ex_ix2 y
  refine ((silu_at m c t i e).trans ((silu_row m c t i e).trans (silu_one (sSilu m c) (row t i) e))).trans ?_
  have a0 := row_val t i
  blk_ext [idx t]

theorem final10 : (dats m 0 c).arrAt 10 cfg0.N = sHid m c := by
  refine (dats m 0 c).arrAt_eq_of_covers 10 _ (by decide +kernel) fun t hf y => ?_
  blk_simp
  rw [after0_10]
  obtain ⟨i, e, rfl⟩ := ex_ix2 y
  refine (hid_row m c t i e).trans ?_
  have a0 := row_val t i
  blk_ext [idx t]

end Cert.FfnFIdeal.Hand
end
-- ==== Proof.FfnFClaim.lean ====
module

public import proofs.«01_k».proof.Proof.FfnFFinal
public import proofs.«01_k».proof.Defs
public import proofs.«01_k».proof.Proof.Gen.Pre_finite_gates
public import proofs.«01_k».proof.Proof.Gen.FfnFIdeal.Value
public import proofs.«01_k».proof.Proof.Gen.FfnFRefIdeal.Run
public import Idealize.ShloMosaic.Adequacy
public import Idealize.ShloMosaic.Init

@[expose] public section

/-! The feed forward layer with the arrays it saves: the kernel and the reference leave equal arrays where
the gain and the up projection's weight are real. -/

set_option maxRecDepth 16384

noncomputable section

namespace Cert.FfnFRefIdeal.Hand

open Idealize.ShloMosaic Idealize.ShloMosaic.TcCoe Idealize.ShloMosaic.StableHlo Idealize.SL.Sem
open Cert.FfnFRefIdeal Cert.FfnFRefIdeal.Gen Cert.FfnFRefIdeal.Value
open Cert.AttnRefIdeal.Hand (rVar rInv rXhat)
open Cert.FfnRefIdeal.Hand (rXn rCol rOne rSig rSigD rSilu rDgate)
open Cert.FfnFIdeal.Hand (rOut)

variable (m : (ℓ : Loc nD τ sig) → Buf (Elt Ideal) ℓ) (c : Dev nD)

/-- The reference's arrays. -/
abbrev ax : FVec Ideal S4096x1024 .f32 := m ((c.tc : Thread nD τ).loc main_arg0)
abbrev ag : FVec Ideal S1024 .f32 := m ((c.tc : Thread nD τ).loc main_arg1)
abbrev awg : FVec Ideal S1024x2816 .f32 := m ((c.tc : Thread nD τ).loc main_arg2)
abbrev awu : FVec Ideal S1024x2816 .f32 := m ((c.tc : Thread nD τ).loc main_arg3)
abbrev awd : FVec Ideal S2816x1024 .f32 := m ((c.tc : Thread nD τ).loc main_arg4)

/-- The stages, as functions of the arrays. -/
def xnOf (x : FVec Ideal S4096x1024 .f32) (g : FVec Ideal S1024 .f32) : FVec Ideal S4096x1024 .f32 :=
  rXn g (rXhat x (rInv (rVar x)))
def siluOf (x : FVec Ideal S4096x1024 .f32) (g : FVec Ideal S1024 .f32) (wg : FVec Ideal S1024x2816 .f32) : FVec Ideal S4096x2816 .f32 :=
  rSilu (rCol (xnOf x g) wg) (rSig (rCol (xnOf x g) wg))
def hidOf (x : FVec Ideal S4096x1024 .f32) (g : FVec Ideal S1024 .f32) (wg wu : FVec Ideal S1024x2816 .f32) : FVec Ideal S4096x2816 .f32 :=
  mulf (siluOf x g wg) (rCol (xnOf x g) wu)
def dgOf (x : FVec Ideal S4096x1024 .f32) (g : FVec Ideal S1024 .f32) (wg wu : FVec Ideal S1024x2816 .f32) : FVec Ideal S4096x2816 .f32 :=
  rDgate (rCol (xnOf x g) wg) (rSig (rCol (xnOf x g) wg)) (rSigD (rSig (rCol (xnOf x g) wg))) (mulf rOne (rCol (xnOf x g) wu))

end Cert.FfnFRefIdeal.Hand

namespace Cert.FfnFIdeal.Hand

open Idealize.ShloMosaic Idealize.ShloMosaic.TcCoe Idealize.SL.Sem
open Cert.Reals

/-- The precondition says that the gain and the up projection's weight are real. -/
theorem real_of_pre (m : (ℓ : Loc nD τ sig) → Buf (Elt Ideal) ℓ) (h : Cert.Pre_FfnFIdeal_finite_gates m) (c : Dev nD) : Real m c := by
  obtain ⟨h0, h1⟩ := h c
  exact ⟨fun i => isR_of_abs_lt (congrFun h0 i), fun i => isR_of_abs_lt (congrFun h1 i)⟩

open Cert.FfnFRefIdeal.Hand in
theorem algebraic : Cert.algebraic_FfnFIdeal_FfnFRefIdeal_pre_finite_gates := by
  intro m g m' g' hp hm
  refine ⟨_, _, _, _, _, _, Cert.FfnFIdeal.Value.run_blocks m g, ?_⟩
  refine (θ_run _ _ _).mono (fun r h c => ?_) (Cert.FfnFRefIdeal.Value.run m' g')
  obtain ⟨e0, e1, e2, e3, e4, e5, e6⟩ := h c
  obtain ⟨h0, h1, h2, h3, h4⟩ := hm c
  have hr := real_of_pre m hp c
  have b0 : ax m' c = kx m c := h0
  have b1 : ag m' c = kg m c := h1
  have b2 : awg m' c = kwg m c := h2
  have b3 : awu m' c = kwu m c := h3
  have b4 : awd m' c = kwd m c := h4
  refine ⟨e0.trans ?_, e1.trans ?_, e2.trans ?_, e3.trans ?_, e4.trans ?_, e5.trans ?_, e6⟩
  · rw [final5 m c]
    show rOut (ax m' c) (hidOf (ax m' c) (ag m' c) (awg m' c) (awu m' c)) (awd m' c) = _
    rw [b0, b1, b2, b3, b4]
    rfl
  · rw [final6 m c]
    show truncf .bf16 (xnOf (ax m' c) (ag m' c)) Cert.FfnFRefIdeal.Gen.bitsLt_bf16_f32 = _
    rw [b0, b1]
    rfl
  · rw [final7 m c]
    show Cert.AttnRefIdeal.Hand.rInv (Cert.AttnRefIdeal.Hand.rVar (ax m' c)) = _
    rw [b0]
  · rw [final8 m c hr]
    show truncf .bf16 (dgOf (ax m' c) (ag m' c) (awg m' c) (awu m' c)) Cert.FfnFRefIdeal.Gen.bitsLt_bf16_f32 = _
    rw [b0, b1, b2, b3]
    rfl
  · rw [final9 m c]
    show truncf .bf16 (mulf (siluOf (ax m' c) (ag m' c) (awg m' c)) Cert.FfnRefIdeal.Hand.rOne) Cert.FfnFRefIdeal.Gen.bitsLt_bf16_f32 = _
    rw [b0, b1, b2]
    rfl
  · rw [final10 m c]
    show truncf .bf16 (hidOf (ax m' c) (ag m' c) (awg m' c) (awu m' c)) Cert.FfnFRefIdeal.Gen.bitsLt_bf16_f32 = _
    rw [b0, b1, b2, b3]
    rfl

end Cert.FfnFIdeal.Hand
end
-- ==== Proof.AttnFWin.lean ====
module

public import proofs.«01_k».proof.Proof.AttnWin
public import proofs.«01_k».proof.Proof.Gen.AttnFIdeal.Value
public import Idealize.ShloMosaic.Lib.Pipeline.ReadBack

@[expose] public section

/-! What each grid point of the cross attention's kernel leaves in its output blocks: the normalised rows and their factor, the
queries, the heads' outputs, written head by head, and the layer's output. -/

set_option maxRecDepth 16384

noncomputable section

namespace Cert.AttnFIdeal.Hand

open Idealize.ShloMosaic Idealize.ShloMosaic.TcCoe Idealize.SL.Sem
open Idealize.ShloMosaic.Pipeline (Dat)
open Cert.AttnFIdeal Cert.AttnFIdeal.Gen
open Cert.Cells (ex_ix2 readCov_canon)
open Cert.AttnIdeal.Hand (hc hrow pH scoreF expF probF rowMax_apply split_col hcol0 hcol1 hcol2 hcol3)

section
variable (x : S1024x1024.Idx → EReal) (g : S1x1024.Idx → EReal) (w : S1024x1024.Idx → EReal) (i : Fin 1024) (e : Fin 1024)

/-- The norm's factor of a row. -/
def invB : EReal :=
  Ideal.rsqrt (Ideal.div (∑ y, x (ix2 i y) * x (ix2 i y)) (Ideal.ofBits .f32 0x44800000#32) + Ideal.ofBits .f32 0x358637BD#32)
/-- The normalised row with its gain. -/
def xnB (y : Fin 1024) : EReal := x (ix2 i y) * invB x i * g (ix2 0 y)
/-- The queries. -/
def qB : EReal := ∑ y, xnB x g i y * w (ix2 y e)

end

section
variable (q : Vec Ideal S1024x256 .bf16) (K V : Vec Ideal S256x256 .bf16) (i : Fin 1024) (d : Fin 256)

/-- The weights of row `i`. -/
abbrev pR (q : Vec Ideal S1024x256 .bf16) (K : Vec Ideal S256x256 .bf16) (i : Fin 1024) : Fin 256 → EReal :=
  probF (scoreF (fun d => q (ix2 i d)) fun j d => K (ix2 j d))

theorem o0 : k0_pay8 (k0_pay6 q K) (k0_pay7 q K) V (ix2 i d) = ∑ j, pR q K i j * V (ix2 j d) := by
  pointwise [k0_pay6, k0_pay7, k0_pay8] <;> rfl

theorem o1 : k0_pay9 q K V (ix2 i d) = ∑ j, pR q K i j * V (ix2 j d) := by
  pointwise [k0_pay9] <;> rfl

theorem o2 : k0_pay11 (k0_pay10 q) K V (ix2 i d) = ∑ j, pR q K i j * V (ix2 j d) := by
  pointwise [k0_pay10, k0_pay11] <;> rfl

theorem o3 : k0_pay1 (k0_pay12 q K) (k0_pay13 V) (ix2 i d) = ∑ j, pR q K i j * V (ix2 j d) := by
  pointwise [k0_pay12, k0_pay13, k0_pay1] <;> rfl

end

variable (m : (ℓ : Loc nD τ sig) → Buf (Elt Ideal) ℓ) (c : Dev nD) (t : Fin cfg0.N)

theorem inv_at (i : Fin 1024) : (outsAt0 m c t).2.2.1 (ix2 i 0) = invB (iblk m c 0 t) i := by
  unfold outsAt0
  frame_out
  pointwise [invB, k0_pay3]

theorem xn_at (i : Fin 1024) (e : Fin 1024) : (outsAt0 m c t).2.1 (ix2 i e) = xnB (iblk m c 0 t) (iblk m c 1 t) i e := by
  unfold outsAt0
  frame_out
  pointwise [xnB, invB, k0_pay3, k0_pay4]

theorem q_eq : (outsAt0 m c t).2.2.2.1 = k0_pay5 (iblk m c 0 t) (iblk m c 1 t) (iblk m c 2 t) := by
  unfold outsAt0
  frame_out

theorem q_apply (x : Vec Ideal S1024x1024 .f32) (g : Vec Ideal S1x1024 .f32) (w : Vec Ideal S1024x1024 .bf16) (i : Fin 1024)
    (e : Fin 1024) : k0_pay5 x g w (ix2 i e) = qB x g w i e := by
  pointwise [qB, xnB, invB, k0_pay3, k0_pay4, k0_pay5]

theorem out_eq : (outsAt0 m c t).1 = k0_pay2 (iblk m c 0 t) (outsAt0 m c t).2.2.2.2 (iblk m c 5 t) := by
  unfold outsAt0
  frame_out
  rw [readCov_canon _ _ _ (by decide)]

theorem out_apply (x : Vec Ideal S1024x1024 .f32) (o w : Vec Ideal S1024x1024 .bf16) (i : Fin 1024)
    (e : Fin 1024) : k0_pay2 x o w (ix2 i e) = x (ix2 i e) + ∑ y, o (ix2 i y) * w (ix2 y e) := by
  pointwise [k0_pay2]

end Cert.AttnFIdeal.Hand
end
-- ==== Proof.AttnFWinO.lean ====
module

public import proofs.«01_k».proof.Proof.AttnFWin

@[expose] public section

/-! The block of the heads' outputs that a grid point of the cross attention's kernel leaves. -/

set_option maxRecDepth 16384

noncomputable section

namespace Cert.AttnFIdeal.Hand

open Idealize.ShloMosaic Idealize.ShloMosaic.TcCoe Idealize.SL.Sem
open Idealize.ShloMosaic.Pipeline (Dat)
open Cert.AttnFIdeal Cert.AttnFIdeal.Gen
open Cert.Cells (ex_ix2)
open Cert.AttnIdeal.Hand (hc hrow pH scoreF expF probF split_col hcol0 hcol1 hcol2 hcol3)

variable (m : (ℓ : Loc nD τ sig) → Buf (Elt Ideal) ℓ) (c : Dev nD) (t : Fin cfg0.N)

theorem o_at (i : Fin 1024) (n : Fin 4) (d : Fin 256) : (outsAt0 m c t).2.2.2.2 (ix2 i (hc n d))
    = ∑ j, pH (n := 1024) (k0_pay5 (iblk m c 0 t) (iblk m c 1 t) (iblk m c 2 t)) (iblk m c 3 t) n i j * hrow (iblk m c 4 t) n j d := by
  unfold outsAt0
  frame_open
  simp (disch := decide) only [↓ View.readCov_skip, ↓ View.readCov_fill]
  frame_out
  generalize hy : ix2 i (hc n d) = y
  canon_tiles x hh
  · obtain ⟨a, b, rfl⟩ := ex_ix2 x
    subst hy
    obtain ⟨rfl, rfl, rfl⟩ := split_col (3 : Fin 4) (i := i) (a := a) (n := n) (d := d) (b := b) hh0 hh1
    refine (o3 _ _ _ _ _).trans ?_
    pointwise [pR]
    simp only [hcol3] <;> rfl
  · obtain ⟨a, b, rfl⟩ := ex_ix2 x
    subst hy
    obtain ⟨rfl, rfl, rfl⟩ := split_col (2 : Fin 4) (i := i) (a := a) (n := n) (d := d) (b := b) hh0 hh1
    refine (o2 _ _ _ _ _).trans ?_
    pointwise [pR]
    simp only [hcol2] <;> rfl
  · obtain ⟨a, b, rfl⟩ := ex_ix2 x
    subst hy
    obtain ⟨rfl, rfl, rfl⟩ := split_col (1 : Fin 4) (i := i) (a := a) (n := n) (d := d) (b := b) hh0 hh1
    refine (o1 _ _ _ _ _).trans ?_
    pointwise [pR]
    simp only [hcol1] <;> rfl
  · obtain ⟨a, b, rfl⟩ := ex_ix2 x
    subst hy
    obtain ⟨rfl, rfl, rfl⟩ := split_col (0 : Fin 4) (i := i) (a := a) (n := n) (d := d) (b := b) hh0 (hh1.trans (show b.val = 0 * 256 + b.val by omega))
    refine (o0 _ _ _ _ _).trans ?_
    pointwise [pR]
    simp only [hcol0] <;> rfl

end Cert.AttnFIdeal.Hand
end
-- ==== Proof.AttnFFinal.lean ====
module

public import proofs.«01_k».proof.Proof.AttnFWinO
public import proofs.«01_k».proof.Proof.AttnMath
public import proofs.«01_k».proof.Proof.AttnFinal
public import proofs.«01_k».proof.Proof.Gen.AttnFRefIdeal

@[expose] public section

/-! The five arrays the cross attention's kernel leaves are the reference's stages at the program's arrays. Point `t` works on
rows `1024 t … 1024 t + 1023`; the gain, the weights, the keys and the values are whole at every point. -/

set_option maxRecDepth 16384

noncomputable section

namespace Cert.AttnFIdeal.Hand

open Idealize.ShloMosaic Idealize.ShloMosaic.TcCoe Idealize.SL.Sem
open Idealize.ShloMosaic.Pipeline (Dat)
open Cert.AttnFIdeal Cert.AttnFIdeal.Gen
open Cert.Cells (ex_ix2)
open Cert.AttnIdeal.Hand (hc hrow pH scoreF expF probF ex_hc prob_eq)
open Cert.AttnRefIdeal.Hand (rVar rInv rXhat rQ rScore rMax rExp rSum rProb rVar_apply rInv_apply rXhat_apply rQ_apply hc_div)

/-- The rows with the gain. -/
def rXg (g : FVec Ideal S1024 .f32) (xh : FVec Ideal S4096x1024 .f32) : FVec Ideal S4096x1024 .f32 :=
  mulf xh (broadcastInDim S4096x1024 ![0, 1] Cert.AttnFRefIdeal.Gen.bcast_S1x1024_S4096x1024_0_1 (broadcastInDim S1x1024 ![1] Cert.AttnFRefIdeal.Gen.bcast_S1024_S1x1024_1 g))

/-- The heads' outputs. -/
def rO (v : FVec Ideal S256x1024 .f32) (p : FVec Ideal Cert.AttnFRefIdeal.S4x4096x256 .f32) : FVec Ideal S4096x1024 .f32 :=
  shapeCast _ (transpose Cert.AttnFRefIdeal.S4096x4x256 [2, 0, 1] (Host.dotGeneral Cert.AttnFRefIdeal.dot_S256x4x256_S4x4096x256_S4x256x4096_0_2_2_1_1_0 none (shapeCast _ v Cert.AttnFRefIdeal.Gen.shapeCasts_S256x1024_S256x4x256) p) Cert.AttnFRefIdeal.Gen.transposes_S4x256x4096_S4096x4x256_2_0_1) Cert.AttnFRefIdeal.Gen.shapeCasts_S4096x4x256_S4096x1024

/-- The layer's output. -/
def rOut (x : FVec Ideal S4096x1024 .f32) (o : FVec Ideal S4096x1024 .f32) (w : FVec Ideal S1024x1024 .f32) : FVec Ideal S4096x1024 .f32 :=
  addf x (Host.dotGeneral Cert.AttnFRefIdeal.dot_S4096x1024_S1024x1024_S4096x1024_1_0_0_1_n_n none o w)

section
variable (x xh o : FVec Ideal S4096x1024 .f32) (g : FVec Ideal S1024 .f32) (w : FVec Ideal S1024x1024 .f32)
  (v : FVec Ideal S256x1024 .f32) (p : FVec Ideal Cert.AttnFRefIdeal.S4x4096x256 .f32) (s : Fin 4096) (d : Fin 1024)

theorem rXg_apply : rXg g xh (ix2 s d) = xh (ix2 s d) * g (ix1 d) := by
  pointwise [rXg]

theorem rO_apply (h : Fin 4) (y : Fin 256) : rO v p (ix2 s (Cert.AttnRefIdeal.Hand.hc h y))
    = ∑ j, v (ix2 j (Cert.AttnRefIdeal.Hand.hc h y)) * p (ix3 h s j) := by
  pointwise [rO]
  simp only [hc_div]

theorem rOut_apply : rOut x o w (ix2 s d) = x (ix2 s d) + ∑ e, o (ix2 s e) * w (ix2 e d) := by
  pointwise [rOut]

end

variable (m : (ℓ : Loc nD τ sig) → Buf (Elt Ideal) ℓ) (c : Dev nD)

/-- The program's arrays. -/
abbrev kx : FVec Ideal S4096x1024 .f32 := m ((c : Thread nD τ).loc main_arg0)
abbrev kg : FVec Ideal S1024 .f32 := m ((c : Thread nD τ).loc main_arg1)
abbrev kk : FVec Ideal S256x1024 .f32 := m ((c : Thread nD τ).loc main_arg2)
abbrev kv : FVec Ideal S256x1024 .f32 := m ((c : Thread nD τ).loc main_arg3)
abbrev kwq : FVec Ideal S1024x1024 .f32 := m ((c : Thread nD τ).loc main_arg4)
abbrev kwo : FVec Ideal S1024x1024 .f32 := m ((c : Thread nD τ).loc main_arg5)

/-- The stages of the layer at the program's arrays. -/
abbrev sInv := rInv (rVar (kx m c))
abbrev sXn := rXg (kg m c) (rXhat (kx m c) (sInv m c))
abbrev sQ := rQ (kg m c) (kwq m c) (rXhat (kx m c) (sInv m c))
abbrev sExp := rExp (rScore (kk m c) (sQ m c)) (rMax (rScore (kk m c) (sQ m c)))
abbrev sO := rO (kv m c) (rProb (sExp m c) (rSum (sExp m c)))

theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] ∧ win0_10.index t = ![t.val, 0] ∧
    t.val < 4 :=
  (by decide +kernel : ∀ t : Fin grid0.N, _)

/-- Row `i` of point `t`'s block. -/
def row (t : Fin cfg0.N) (i : Fin 1024) : Fin 4096 := ⟨t.val * 1024 + i.val, by have := (idx t).2.2.2.2.2.2.2.2.2.2.2; omega⟩

theorem row_val (t : Fin cfg0.N) (i : Fin 1024) : (row t i).val = t.val * 1024 + i.val := rfl

variable (t : Fin cfg0.N)

theorem V0 : (V m c main_v0 : FVec Ideal S1x1024 .f32) = shapeCast S1x1024 (kg m c) shapeCasts_S1024_S1x1024 := by entry_read; rfl
theorem V1 : (V m c main_v1 : FVec Ideal S1024x1024 .bf16) = kwq m c := by entry_read; rfl
theorem V2 : (V m c main_v2 : FVec Ideal S256x1024 .bf16) = kk m c := by entry_read; rfl
theorem V3 : (V m c main_v3 : FVec Ideal S256x1024 .bf16) = kv m c := by entry_read; rfl
theorem V4 : (V m c main_v4 : FVec Ideal S1024x1024 .bf16) = kwo m c := by entry_read; rfl

theorem blk0 (i : Fin 1024) (e : Fin 1024) : iblk m c 0 t (ix2 i e) = kx m c (ix2 (row t i) e) := by
  have a0 := row_val t i
  blk_ext [iblk, V, idx t]
theorem blk1 (e : Fin 1024) : iblk m c 1 t (ix2 0 e) = kg m c (ix1 e) := by
  have a0 : iblk m c 1 t (ix2 0 e) = V m c main_v0 (ix2 0 e) := by blk_ext [iblk, idx t]
  rw [a0, V0 m c]
  pointwise
theorem blk2 : iblk m c 2 t = kwq m c := by rw [← V1 m c]; blk_ext! [iblk, idx t]
theorem blk3 : iblk m c 3 t = kk m c := by rw [← V2 m c]; blk_ext! [iblk, idx t]
theorem blk4 : iblk m c 4 t = kv m c := by rw [← V3 m c]; blk_ext! [iblk, idx t]
theorem blk5 : iblk m c 5 t = kwo m c := by rw [← V4 m c]; blk_ext! [iblk, idx t]

/-! ## The stages at a point's rows -/

theorem inv_row (i : Fin 1024) : invB (iblk m c 0 t) i = sInv m c (ix2 (row t i) 0) := by
  refine Eq.trans ?_ (rInv_apply ..).symm
  rw [rVar_apply, invB]
  simp only [blk0]

theorem xn_row (i : Fin 1024) (e : Fin 1024) : xnB (iblk m c 0 t) (iblk m c 1 t) i e = sXn m c (ix2 (row t i) e) := by
  refine Eq.trans ?_ (rXg_apply ..).symm
  rw [rXhat_apply, xnB, inv_row, blk0, blk1]

theorem q_row (i : Fin 1024) (e : Fin 1024) : k0_pay5 (iblk m c 0 t) (iblk m c 1 t) (iblk m c 2 t) (ix2 i e) = sQ m c (ix2 (row t i) e) := by
  rw [q_apply]
  refine Eq.trans ?_ (rQ_apply ..).symm
  exact Finset.sum_congr rfl fun y _ => by
    rw [xn_row, blk2]
    exact congrArg (· * _) (rXg_apply ..)

theorem q_hrow (n : Fin 4) (i : Fin 1024) : hrow (n := 1024) (k0_pay5 (iblk m c 0 t) (iblk m c 1 t) (iblk m c 2 t)) n i
    = hrow (sQ m c) n (row t i) :=
  funext fun d => q_row m c t i (hc n d)

theorem p_row (n : Fin 4) (i : Fin 1024) : pH (n := 1024) (k0_pay5 (iblk m c 0 t) (iblk m c 1 t) (iblk m c 2 t)) (iblk m c 3 t) n i
    = pH (sQ m c) (kk m c) n (row t i) := by
  show probF (scoreF (hrow (n := 1024) (k0_pay5 (iblk m c 0 t) (iblk m c 1 t) (iblk m c 2 t)) n i) _) = _
  rw [q_hrow, blk3]

theorem o_row (i : Fin 1024) (e : Fin 1024) : (outsAt0 m c t).2.2.2.2 (ix2 i e) = sO m c (ix2 (row t i) e) := by
  obtain ⟨n, d, rfl⟩ := ex_hc e
  rw [o_at]
  refine Eq.trans ?_ (rO_apply ..).symm
  exact Finset.sum_congr rfl fun j _ => by
    rw [p_row, blk4, mul_comm]
    exact congrArg _ (prob_eq (kk m c) (sQ m c) n (row t i) j).symm

theorem out_row (i : Fin 1024) (e : Fin 1024) : (outsAt0 m c t).1 (ix2 i e) = rOut (kx m c) (sO m c) (kwo m c) (ix2 (row t i) e) := by
  rw [out_eq, out_apply, blk0, blk5]
  refine Eq.trans ?_ (rOut_apply ..).symm
  exact congrArg _ (Finset.sum_congr rfl fun y _ => by rw [o_row])

/-! ## The arrays after the run -/

theorem final6 : (dats m 0 c).arrAt 6 cfg0.N = rOut (kx m c) (sO m c) (kwo m c) := by
  refine (dats m 0 c).arrAt_eq_of_covers 6 _ (by decide +kernel) fun t hf y => ?_
  blk_simp
  rw [after0_6]
  obtain ⟨i, e, rfl⟩ := ex_ix2 y
  refine (out_row m c t i e).trans ?_
  have a0 := row_val t i
  blk_ext [idx t]

theorem final7 : (dats m 0 c).arrAt 7 cfg0.N = sXn m c := by
  refine (dats m 0 c).arrAt_eq_of_covers 7 _ (by decide +kernel) fun t hf y => ?_
  blk_simp
  rw [after0_7]
  obtain ⟨i, e, rfl⟩ := ex_ix2 y
  refine ((xn_at m c t i e).trans (xn_row m c t i e)).trans ?_
  have a0 := row_val t i
  blk_ext [idx t]

theorem final8 : (dats m 0 c).arrAt 8 cfg0.N = sInv m c := by
  refine (dats m 0 c).arrAt_eq_of_covers 8 _ (by decide +kernel) fun t hf y => ?_
  blk_simp
  rw [after0_8]
  obtain ⟨i, e, rfl⟩ := ex_ix2 y
  obtain rfl : e = 0 := Subsingleton.elim _ _
  refine ((inv_at m c t i).trans (inv_row m c t i)).trans ?_
  have a0 := row_val t i
  blk_ext [idx t]

theorem final9 : (dats m 0 c).arrAt 9 cfg0.N = sQ m c := by
  refine (dats m 0 c).arrAt_eq_of_covers 9 _ (by decide +kernel) fun t hf y => ?_
  blk_simp
  rw [after0_9]
  obtain ⟨i, e, rfl⟩ := ex_ix2 y
  refine ((congrFun (q_eq m c t) _).trans (q_row m c t i e)).trans ?_
  have a0 := row_val t i
  blk_ext [idx t]

theorem final10 : (dats m 0 c).arrAt 10 cfg0.N = sO m c := by
  refine (dats m 0 c).arrAt_eq_of_covers 10 _ (by decide +kernel) fun t hf y => ?_
  blk_simp
  rw [after0_10]
  obtain ⟨i, e, rfl⟩ := ex_ix2 y
  refine (o_row m c t i e).trans ?_
  have a0 := row_val t i
  blk_ext [idx t]

end Cert.AttnFIdeal.Hand
end
-- ==== Proof.AttnFClaim.lean ====
module

public import proofs.«01_k».proof.Proof.AttnFFinal
public import proofs.«01_k».proof.Defs
public import proofs.«01_k».proof.Proof.Gen.AttnFIdeal.Value
public import proofs.«01_k».proof.Proof.Gen.AttnFRefIdeal.Run
public import Idealize.ShloMosaic.Adequacy
public import Idealize.ShloMosaic.Init

@[expose] public section

/-! The cross attention of a layer with the arrays it saves: the kernel and the reference leave equal arrays. -/

set_option maxRecDepth 16384

noncomputable section

namespace Cert.AttnFRefIdeal.Hand

open Idealize.ShloMosaic Idealize.ShloMosaic.TcCoe Idealize.ShloMosaic.StableHlo Idealize.SL.Sem
open Cert.AttnFRefIdeal Cert.AttnFRefIdeal.Gen Cert.AttnFRefIdeal.Value
open Cert.AttnRefIdeal.Hand (rVar rInv rXhat rQ rScore rMax rExp rSum rProb)
open Cert.AttnFIdeal.Hand (rXg rO rOut)

variable (m : (ℓ : Loc nD τ sig) → Buf (Elt Ideal) ℓ) (c : Dev nD)

/-- The reference's arrays. -/
abbrev ax : FVec Ideal S4096x1024 .f32 := m ((c.tc : Thread nD τ).loc main_arg0)
abbrev ag : FVec Ideal S1024 .f32 := m ((c.tc : Thread nD τ).loc main_arg1)
abbrev ak : FVec Ideal S256x1024 .f32 := m ((c.tc : Thread nD τ).loc main_arg2)
abbrev av : FVec Ideal S256x1024 .f32 := m ((c.tc : Thread nD τ).loc main_arg3)
abbrev awq : FVec Ideal S1024x1024 .f32 := m ((c.tc : Thread nD τ).loc main_arg4)
abbrev awo : FVec Ideal S1024x1024 .f32 := m ((c.tc : Thread nD τ).loc main_arg5)

/-- The stages, as functions of the arrays. -/
def xhOf (x : FVec Ideal S4096x1024 .f32) : FVec Ideal S4096x1024 .f32 := rXhat x (rInv (rVar x))
def qOf (x : FVec Ideal S4096x1024 .f32) (g : FVec Ideal S1024 .f32) (wq : FVec Ideal S1024x1024 .f32) : FVec Ideal S4096x1024 .f32 :=
  rQ g wq (xhOf x)
def probOf (q : FVec Ideal S4096x1024 .f32) (k : FVec Ideal S256x1024 .f32) : FVec Ideal S4x4096x256 .f32 :=
  rProb (rExp (rScore k q) (rMax (rScore k q))) (rSum (rExp (rScore k q) (rMax (rScore k q))))

theorem res0 : res_out0 m c = rOut (ax m c) (rO (av m c) (probOf (qOf (ax m c) (ag m c) (awq m c)) (ak m c))) (awo m c) := rfl
theorem res4 : res_out4 m c = truncf .bf16 (rO (av m c) (probOf (qOf (ax m c) (ag m c) (awq m c)) (ak m c))) bitsLt_bf16_f32 := rfl

end Cert.AttnFRefIdeal.Hand

namespace Cert.AttnFIdeal.Hand

open Idealize.ShloMosaic Idealize.ShloMosaic.TcCoe Idealize.SL.Sem

open Cert.AttnFRefIdeal.Hand in
theorem algebraic : Cert.algebraic_AttnFIdeal_AttnFRefIdeal := by
  intro m g m' g' _ hm
  refine ⟨_, _, _, _, _, Cert.AttnFIdeal.Value.run_blocks m g, ?_⟩
  refine (θ_run _ _ _).mono (fun r h c => ?_) (Cert.AttnFRefIdeal.Value.run m' g')
  obtain ⟨e0, e1, e2, e3, e4, e5⟩ := h c
  obtain ⟨h0, h1, h2, h3, h4, h5⟩ := hm c
  have b0 : ax m' c = kx m c := h0
  have b1 : ag m' c = kg m c := h1
  have b2 : ak m' c = kk m c := h2
  have b3 : av m' c = kv m c := h3
  have b4 : awq m' c = kwq m c := h4
  have b5 : awo m' c = kwo m c := h5
  refine ⟨e0.trans ?_, e1.trans ?_, e2.trans ?_, e3.trans ?_, e4.trans ?_, e5⟩
  · rw [final6 m c]
    refine (res0 m' c).trans ?_
    rw [b0, b1, b2, b3, b4, b5]
    rfl
  · rw [final7 m c]
    show truncf .bf16 (rXg (ag m' c) (xhOf (ax m' c))) Cert.AttnFRefIdeal.Gen.bitsLt_bf16_f32 = _
    rw [b0, b1]
    rfl
  · rw [final8 m c]
    show Cert.AttnRefIdeal.Hand.rInv (Cert.AttnRefIdeal.Hand.rVar (ax m' c)) = _
    rw [b0]
  · rw [final9 m c]
    show truncf .bf16 (qOf (ax m' c) (ag m' c) (awq m' c)) Cert.AttnFRefIdeal.Gen.bitsLt_bf16_f32 = _
    rw [b0, b1, b4]
    rfl
  · rw [final10 m c]
    refine (res4 m' c).trans ?_
    rw [b0, b1, b2, b3, b4]
    rfl

end Cert.AttnFIdeal.Hand
end
-- ==== Proof.ColsClaim.lean ====
module

public import proofs.«01_k».proof.Defs
public import proofs.«01_k».proof.Proof.Cells
public import proofs.«01_k».proof.Proof.Gen.ColsIdeal.Value
public import proofs.«01_k».proof.Proof.Gen.ColsRefIdeal.Run
public import Idealize.ShloMosaic.Lib.Pipeline.ValueKit
public import Idealize.ShloMosaic.Lib.Pointwise
public import Idealize.ShloMosaic.Adequacy
public import Idealize.ShloMosaic.Init

@[expose] public section

/-!
The transposed gradient of the weight of a projection to 2816 columns. Point `t` of the kernel multiplies columns
`256 t … 256 t + 255` of the gradient of the product, transposed, with the rows; the reference multiplies all of them.
-/

set_option maxRecDepth 16384

noncomputable section

namespace Cert.ColsRefIdeal.Hand

open Idealize.ShloMosaic Idealize.ShloMosaic.TcCoe Idealize.ShloMosaic.StableHlo Idealize.SL.Sem
open Cert.ColsRefIdeal Cert.ColsRefIdeal.Gen Cert.ColsRefIdeal.Value

/-- The weight's gradient. -/
def rDw (x : FVec Ideal S4096x1024 .f32) (dy : FVec Ideal S4096x2816 .f32) : FVec Ideal S2816x1024 .bf16 :=
  truncf .bf16 (transpose S2816x1024 [1, 0] (transpose S1024x2816 [1, 0] (Host.dotGeneral dot_S4096x2816_S4096x1024_S2816x1024_0_0_1_1_n_n none dy x) transposes_S2816x1024_S1024x2816_1_0) transposes_S1024x2816_S2816x1024_1_0) bitsLt_bf16_f32

theorem rDw_apply (x : FVec Ideal S4096x1024 .f32) (dy : FVec Ideal S4096x2816 .f32) (i : Fin 2816) (j : Fin 1024) :
    rDw x dy (ix2 i j) = ∑ s, dy (ix2 s i) * x (ix2 s j) := by
  pointwise [rDw]

end Cert.ColsRefIdeal.Hand

namespace Cert.ColsIdeal.Hand

open Idealize.ShloMosaic Idealize.ShloMosaic.TcCoe Idealize.SL.Sem
open Idealize.ShloMosaic.Pipeline (Dat)
open Cert.ColsIdeal Cert.ColsIdeal.Gen
open Cert.Cells (ex_ix2)
open Cert.ColsRefIdeal.Hand (rDw rDw_apply)

theorem dw_apply (a : Vec Ideal S4096x256 .bf16) (b : Vec Ideal S4096x1024 .bf16) (i : Fin 256) (j : Fin 1024) :
    k0_pay1 a b (ix2 i j) = ∑ s, a (ix2 s i) * b (ix2 s j) := by
  pointwise [k0_pay1]

variable (m : (ℓ : Loc nD τ sig) → Buf (Elt Ideal) ℓ) (c : Dev nD)

/-- The program's arrays. -/
abbrev kx : FVec Ideal S4096x1024 .f32 := m ((c : Thread nD τ).loc main_arg0)
abbrev kdy : FVec Ideal S4096x2816 .f32 := m ((c : Thread nD τ).loc main_arg2)

theorem idx : ∀ t : Fin cfg0.N, win0_0.index t = ![0, t.val] ∧ win0_1.index t = ![0, 0] ∧ win0_2.index t = ![t.val, 0] ∧ t.val < 11 :=
  (by decide +kernel : ∀ t : Fin grid0.N, _)

/-- Column `i` of point `t`'s block. -/
def col (t : Fin cfg0.N) (i : Fin 256) : Fin 2816 := ⟨t.val * 256 + i.val, by have := (idx t).2.2.2; omega⟩

theorem col_val (t : Fin cfg0.N) (i : Fin 256) : (col t i).val = t.val * 256 + i.val := rfl

theorem V0 : (V m c main_v0 : FVec Ideal S4096x2816 .bf16) = kdy m c := by entry_read; rfl
theorem V1 : (V m c main_v1 : FVec Ideal S4096x1024 .bf16) = kx m c := by entry_read; rfl

variable (t : Fin cfg0.N)

theorem blk0 (s : Fin 4096) (i : Fin 256) : iblk m c 0 t (ix2 s i) = kdy m c (ix2 s (col t i)) := by
  have a0 := col_val t i
  rw [← V0 m c]
  blk_ext [iblk, idx t]

theorem blk1 : iblk m c 1 t = kx m c := by
  rw [← V1 m c]
  blk_ext! [iblk, idx t]

theorem final2 : (dats m 0 c).arrAt 2 cfg0.N = rDw (kx m c) (kdy m c) := by
  refine (dats m 0 c).arrAt_eq_of_covers 2 _ (by decide +kernel) fun t hf y => ?_
  blk_simp
  rw [after0_2]
  obtain ⟨i, e, rfl⟩ := ex_ix2 y
  have a1 : out0_2 (iblk m c 0 t) (iblk m c 1 t) (ix2 i e) = rDw (kx m c) (kdy m c) (ix2 (col t i) e) := by
    refine Eq.trans ?_ (rDw_apply ..).symm
    have a2 : out0_2 (iblk m c 0 t) (iblk m c 1 t) (ix2 i e) = k0_pay1 (iblk m c 0 t) (iblk m c 1 t) (ix2 i e) := by
      frame_out
    rw [a2, dw_apply, blk1]
    exact Finset.sum_congr rfl fun s _ => by rw [blk0]
  refine a1.trans ?_
  have a0 := col_val t i
  blk_ext [idx t]

theorem algebraic : Cert.algebraic_ColsIdeal_ColsRefIdeal := by
  intro m g m' g' _ hm
  refine ⟨_, Cert.ColsIdeal.Value.run_blocks m g, ?_⟩
  refine (θ_run _ _ _).mono (fun r h c => ?_) (Cert.ColsRefIdeal.Value.run m' g')
  obtain ⟨e0, e1⟩ := h c
  obtain ⟨h0, h1, h2⟩ := hm c
  refine ⟨e0.trans ?_, e1⟩
  rw [final2 m c]
  show rDw (m' ((c.tc : Thread _ _).loc Cert.ColsRefIdeal.main_arg0)) (m' ((c.tc : Thread _ _).loc Cert.ColsRefIdeal.main_arg2)) = _
  rw [h0, h2]

end Cert.ColsIdeal.Hand
end
-- ==== Proof.ProjClaim.lean ====
module

public import proofs.«01_k».proof.Defs
public import proofs.«01_k».proof.Proof.Cells
public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Adequacy
public import Idealize.ShloMosaic.Init

@[expose] public section

/-!
The gradient of the weight of a projection to 1024 columns. Point `t` of the kernel multiplies a block of the columns of the
rows, transposed, with the gradient of the product; the reference multiplies the transpose of the latter with the rows and
transposes the product.
-/

set_option maxRecDepth 16384

noncomputable section

namespace Cert.ProjRefIdeal.Hand

open Idealize.ShloMosaic Idealize.ShloMosaic.TcCoe Idealize.ShloMosaic.StableHlo Idealize.SL.Sem
open Cert.ProjRefIdeal Cert.ProjRefIdeal.Gen Cert.ProjRefIdeal.Value

/-- The weight's gradient. -/
def rDw (x : FVec Ideal S4096x1024 .f32) (dy : FVec Ideal S4096x1024 .f32) : FVec Ideal S1024x1024 .bf16 :=
  truncf .bf16 (transpose S1024x1024 [1, 0] (Host.dotGeneral dot_S4096x1024_S4096x1024_S1024x1024_0_0_1_1_n_n none dy x) transposes_S1024x1024_S1024x1024_1_0) bitsLt_bf16_f32

theorem rDw_apply (x : FVec Ideal S4096x1024 .f32) (dy : FVec Ideal S4096x1024 .f32) (i : Fin 1024) (j : Fin 1024) :
    rDw x dy (ix2 i j) = ∑ s, dy (ix2 s j) * x (ix2 s i) := by
  pointwise [rDw]

end Cert.ProjRefIdeal.Hand

namespace Cert.ProjIdeal.Hand

open Idealize.ShloMosaic Idealize.ShloMosaic.TcCoe Idealize.SL.Sem
open Idealize.ShloMosaic.Pipeline (Dat)
open Cert.ProjIdeal Cert.ProjIdeal.Gen
open Cert.Cells (ex_ix2)
open Cert.ProjRefIdeal.Hand (rDw rDw_apply)

theorem dw_apply (a : Vec Ideal S4096x512 .bf16) (b : Vec Ideal S4096x1024 .bf16) (i : Fin 512) (j : Fin 1024) :
    k0_pay1 a b (ix2 i j) = ∑ s, a (ix2 s i) * b (ix2 s j) := by
  pointwise [k0_pay1]

variable (m : (ℓ : Loc nD τ sig) → Buf (Elt Ideal) ℓ) (c : Dev nD)

/-- The program's arrays. -/
abbrev kx : FVec Ideal S4096x1024 .f32 := m ((c : Thread nD τ).loc main_arg0)
abbrev kdy : FVec Ideal S4096x1024 .f32 := m ((c : Thread nD τ).loc main_arg2)

theorem idx : ∀ t : Fin cfg0.N, win0_0.index t = ![0, t.val] ∧ win0_1.index t = ![0, 0] ∧ win0_2.index t = ![t.val, 0] ∧ t.val < 2 :=
  (by decide +kernel : ∀ t : Fin grid0.N, _)

/-- Column `i` of point `t`'s block. -/
def col (t : Fin cfg0.N) (i : Fin 512) : Fin 1024 := ⟨t.val * 512 + i.val, by have := (idx t).2.2.2; omega⟩

theorem col_val (t : Fin cfg0.N) (i : Fin 512) : (col t i).val = t.val * 512 + i.val := rfl

theorem V0 : (V m c main_v0 : FVec Ideal S4096x1024 .bf16) = kx m c := by entry_read; rfl
theorem V1 : (V m c main_v1 : FVec Ideal S4096x1024 .bf16) = kdy m c := by entry_read; rfl

variable (t : Fin cfg0.N)

theorem blk0 (s : Fin 4096) (i : Fin 512) : iblk m c 0 t (ix2 s i) = kx m c (ix2 s (col t i)) := by
  have a0 := col_val t i
  rw [← V0 m c]
  blk_ext [iblk, idx t]

theorem blk1 : iblk m c 1 t = kdy m c := by
  rw [← V1 m c]
  blk_ext! [iblk, idx t]

theorem final2 : (dats m 0 c).arrAt 2 cfg0.N = rDw (kx m c) (kdy m c) := by
  refine (dats m 0 c).arrAt_eq_of_covers 2 _ (by decide +kernel) fun t hf y => ?_
  blk_simp
  rw [after0_2]
  obtain ⟨i, e, rfl⟩ := ex_ix2 y
  have a1 : out0_2 (iblk m c 0 t) (iblk m c 1 t) (ix2 i e) = rDw (kx m c) (kdy m c) (ix2 (col t i) e) := by
    refine Eq.trans ?_ (rDw_apply ..).symm
    have a2 : out0_2 (iblk m c 0 t) (iblk m c 1 t) (ix2 i e) = k0_pay1 (iblk m c 0 t) (iblk m c 1 t) (ix2 i e) := by
      frame_out
    rw [a2, dw_apply, blk1]
    exact Finset.sum_congr rfl fun s _ => by rw [blk0, mul_comm]
  refine a1.trans ?_
  have a0 := col_val t i
  blk_ext [idx t]

theorem algebraic : Cert.algebraic_ProjIdeal_ProjRefIdeal := by
  intro m g m' g' _ hm
  refine ⟨_, Cert.ProjIdeal.Value.run_blocks m g, ?_⟩
  refine (θ_run _ _ _).mono (fun r h c => ?_) (Cert.ProjRefIdeal.Value.run m' g')
  obtain ⟨e0, e1⟩ := h c
  obtain ⟨h0, h1, h2⟩ := hm c
  refine ⟨e0.trans ?_, e1⟩
  rw [final2 m c]
  show rDw (m' ((c.tc : Thread _ _).loc Cert.ProjRefIdeal.main_arg0)) (m' ((c.tc : Thread _ _).loc Cert.ProjRefIdeal.main_arg2)) = _
  rw [h0, h2]

end Cert.ProjIdeal.Hand
end
-- ==== Proof.FfnLWin.lean ====
module

public import proofs.«01_k».proof.Proof.FfnFWin
public import proofs.«01_k».proof.Proof.Reals
public import proofs.«01_k».proof.Proof.Gen.FfnLIdeal.Value
public import Idealize.ShloMosaic.Lib.Pipeline.ReadBack

@[expose] public section

/-! What each grid point of the last feed forward layer's kernel leaves in its output blocks, apart from the arrays of the
hidden width: the normalised rows, the gradient of the loss by the layer's output and by the final gain, and the loss. The last
two are added up over the points. -/

set_option maxRecDepth 16384

noncomputable section

namespace Cert.FfnLIdeal.Hand

open Idealize.ShloMosaic Idealize.ShloMosaic.TcCoe Idealize.SL.Sem
open Idealize.ShloMosaic.Pipeline (Dat)
open Cert.FfnLIdeal Cert.FfnLIdeal.Gen
open Cert.Cells (ex_ix2 readCov_canon)
open Cert.FfnFIdeal.Hand (invB xnB colB sigB siluB dgB)
open Cert.Reals (meansq)

section
variable (x a tg : S512x1024.Idx → EReal) (g : S1x1024.Idx → EReal) (i : Fin 512) (e : Fin 1024)

/-- A row of the layer's output. -/
def yB : EReal := x (ix2 i e) + a (ix2 i e)
/-- The final norm's factor of a row. -/
def rsB : EReal := Ideal.rsqrt (meansq (yB x a i))
/-- The error of a row: the normalised row with the final gain less the target. -/
def errB : EReal := yB x a i e * rsB x a i * g (ix2 0 e) - tg (ix2 i e)
/-- The gradient of the loss by the normalised row with its gain. -/
def dyB : EReal := errB x a tg g i e * Ideal.ofBits .f32 0x3A800000#32
/-- The gradient of the loss by the row. -/
def dxB : EReal := rsB x a i * (dyB x a tg g i e * g (ix2 0 e) - yB x a i e * rsB x a i
  * Ideal.div (∑ l, dyB x a tg g i l * g (ix2 0 l) * (yB x a i l * rsB x a i)) (Ideal.ofBits .f32 0x44800000#32))

end

section
variable (x a tg : Vec Ideal S512x1024 .f32) (g acc : Vec Ideal S1x1024 .f32) (s : Vec Ideal S1x1 .f32) (i : Fin 512) (e : Fin 1024)

theorem dx_apply : k0_pay93 x a tg g (ix2 i e) = dxB x a tg g i e := by
  pointwise [dxB, dyB, errB, rsB, yB, meansq, k0_pay87, k0_pay88, k0_pay89, k0_pay90, k0_pay91, k0_pay92, k0_pay93]

theorem dgain_apply : k0_pay2 (k0_pay95 x a tg g) acc (ix2 0 e)
    = acc (ix2 0 e) + ∑ i, dyB x a tg g i e * (yB x a i e * rsB x a i) := by
  pointwise [dyB, errB, rsB, yB, meansq, k0_pay2, k0_pay87, k0_pay88, k0_pay89, k0_pay90, k0_pay91, k0_pay92, k0_pay95]

theorem loss_apply : k0_pay3 (k0_pay94 x a tg g) s (ix2 0 0)
    = s (ix2 0 0) + (∑ i, ∑ l, errB x a tg g i l * errB x a tg g i l) * Ideal.ofBits .f32 0x3A000000#32 := by
  pointwise [errB, rsB, yB, meansq, k0_pay3, k0_pay87, k0_pay88, k0_pay89, k0_pay90, k0_pay91, k0_pay94]

theorem acc_apply (hd : Vec Ideal S512x2816 .bf16) (w : Vec Ideal S2816x1024 .bf16) :
    k0_pay86 hd w (ix2 i e) = ∑ y, hd (ix2 i y) * w (ix2 y e) := by
  pointwise [k0_pay86]

end

variable (m : (ℓ : Loc nD τ sig) → Buf (Elt Ideal) ℓ) (c : Dev nD) (t : Fin cfg0.N)

theorem inv_at (i : Fin 512) : (outsAt0 m c t.val t.isLt).2.2.2.2.2.1 (ix2 i 0) = invB (iblk m c 0 t) i := by
  by_cases a0 : t.val % 8 = 0
  · rw [outsAt0_A m c t a0]
    frame_out
    pointwise [invB, k0_pay4]
  · rw [outsAt0_B m c t a0]
    frame_out
    pointwise [invB, k0_pay4]

theorem xn_at (i : Fin 512) (e : Fin 1024) : (outsAt0 m c t.val t.isLt).2.2.2.2.1 (ix2 i e) = xnB (iblk m c 0 t) (iblk m c 1 t) i e := by
  by_cases a0 : t.val % 8 = 0
  · rw [outsAt0_A m c t a0]
    frame_out
    pointwise [xnB, invB, k0_pay4, k0_pay5]
  · rw [outsAt0_B m c t a0]
    frame_out
    pointwise [xnB, invB, k0_pay4, k0_pay5]

theorem dx_eq : (outsAt0 m c t.val t.isLt).1
    = k0_pay93 (iblk m c 0 t) (k0_pay86 (outsAt0 m c t.val t.isLt).2.2.2.2.2.2.2.2 (iblk m c 4 t)) (iblk m c 5 t) (iblk m c 6 t) := by
  by_cases a0 : t.val % 8 = 0
  · rw [outsAt0_A m c t a0]
    frame_out
    rw [readCov_canon _ _ _ (by decide)]
  · rw [outsAt0_B m c t a0]
    frame_out
    rw [readCov_canon _ _ _ (by decide)]

theorem dxb_eq : (outsAt0 m c t.val t.isLt).2.1 = (outsAt0 m c t.val t.isLt).1 := by
  by_cases a0 : t.val % 8 = 0
  · rw [outsAt0_A m c t a0]
    frame_out
    funext y
    pointwise [k0_pay1]
  · rw [outsAt0_B m c t a0]
    frame_out
    funext y
    pointwise [k0_pay1]

theorem dgain_eq_A (a0 : t.val % 8 = 0) : (outsAt0 m c t.val t.isLt).2.2.1
    = k0_pay2 (k0_pay95 (iblk m c 0 t) (k0_pay86 (outsAt0 m c t.val t.isLt).2.2.2.2.2.2.2.2 (iblk m c 4 t)) (iblk m c 5 t) (iblk m c 6 t)) (k0_pay96 (F := Ideal)) := by
  rw [outsAt0_A m c t a0]
  frame_out
  rw [readCov_canon _ _ _ (by decide)]

theorem dgain_eq_B (a0 : ¬t.val % 8 = 0) : (outsAt0 m c t.val t.isLt).2.2.1
    = k0_pay2 (k0_pay95 (iblk m c 0 t) (k0_pay86 (outsAt0 m c t.val t.isLt).2.2.2.2.2.2.2.2 (iblk m c 4 t)) (iblk m c 5 t) (iblk m c 6 t)) (outsAt0 m c (t.val - 1) (by omega)).2.2.1 := by
  rw [outsAt0_B m c t a0]
  frame_out
  rw [readCov_canon _ _ _ (by decide)]

theorem loss_eq_A (a0 : t.val % 8 = 0) : (outsAt0 m c t.val t.isLt).2.2.2.1
    = k0_pay3 (k0_pay94 (iblk m c 0 t) (k0_pay86 (outsAt0 m c t.val t.isLt).2.2.2.2.2.2.2.2 (iblk m c 4 t)) (iblk m c 5 t) (iblk m c 6 t)) (k0_pay97 (F := Ideal)) := by
  rw [outsAt0_A m c t a0]
  frame_out
  rw [readCov_canon _ _ _ (by decide)]

theorem loss_eq_B (a0 : ¬t.val % 8 = 0) : (outsAt0 m c t.val t.isLt).2.2.2.1
    = k0_pay3 (k0_pay94 (iblk m c 0 t) (k0_pay86 (outsAt0 m c t.val t.isLt).2.2.2.2.2.2.2.2 (iblk m c 4 t)) (iblk m c 5 t) (iblk m c 6 t)) (outsAt0 m c (t.val - 1) (by omega)).2.2.2.1 := by
  rw [outsAt0_B m c t a0]
  frame_out
  rw [readCov_canon _ _ _ (by decide)]

end Cert.FfnLIdeal.Hand
end
-- ==== Proof.FfnLWinG.lean ====
module

public import proofs.«01_k».proof.Proof.FfnLWin

@[expose] public section

/-! The saved derivative in the gate that a grid point of the last feed forward layer leaves. -/

set_option maxRecDepth 16384

noncomputable section

namespace Cert.FfnLIdeal.Hand

open Idealize.ShloMosaic Idealize.ShloMosaic.TcCoe Idealize.SL.Sem
open Idealize.ShloMosaic.Pipeline (Dat)
open Cert.FfnLIdeal Cert.FfnLIdeal.Gen
open Cert.Cells (ex_ix2 readCov_canon)
open Cert.FfnFIdeal.Hand (invB xnB colB sigB siluB dgB)

variable (m : (ℓ : Loc nD τ sig) → Buf (Elt Ideal) ℓ) (c : Dev nD) (t : Fin cfg0.N)

theorem dg_at (i : Fin 512) (e : Fin 2816) : (outsAt0 m c t.val t.isLt).2.2.2.2.2.2.1 (ix2 i e)
    = dgB (iblk m c 0 t) (iblk m c 1 t) (iblk m c 2 t) (iblk m c 3 t) i e := by
  by_cases a0 : t.val % 8 = 0
  · rw [outsAt0_A m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [dgB, siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  · rw [outsAt0_B m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [dgB, siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]

end Cert.FfnLIdeal.Hand
end
-- ==== Proof.FfnLWinS.lean ====
module

public import proofs.«01_k».proof.Proof.FfnLWin

@[expose] public section

/-! The activations of the gate that a grid point of the last feed forward layer leaves. -/

set_option maxRecDepth 16384

noncomputable section

namespace Cert.FfnLIdeal.Hand

open Idealize.ShloMosaic Idealize.ShloMosaic.TcCoe Idealize.SL.Sem
open Idealize.ShloMosaic.Pipeline (Dat)
open Cert.FfnLIdeal Cert.FfnLIdeal.Gen
open Cert.Cells (ex_ix2 readCov_canon)
open Cert.FfnFIdeal.Hand (invB xnB colB sigB siluB dgB)

variable (m : (ℓ : Loc nD τ sig) → Buf (Elt Ideal) ℓ) (c : Dev nD) (t : Fin cfg0.N)

theorem silu_at (i : Fin 512) (e : Fin 2816) : (outsAt0 m c t.val t.isLt).2.2.2.2.2.2.2.1 (ix2 i e)
    = siluB (iblk m c 0 t) (iblk m c 1 t) (iblk m c 2 t) i e := by
  by_cases a0 : t.val % 8 = 0
  · rw [outsAt0_A m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  · rw [outsAt0_B m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]

end Cert.FfnLIdeal.Hand
end
-- ==== Proof.FfnLWinH.lean ====
module

public import proofs.«01_k».proof.Proof.FfnLWin

@[expose] public section

/-! The hidden activations that a grid point of the last feed forward layer leaves. -/

set_option maxRecDepth 16384

noncomputable section

namespace Cert.FfnLIdeal.Hand

open Idealize.ShloMosaic Idealize.ShloMosaic.TcCoe Idealize.SL.Sem
open Idealize.ShloMosaic.Pipeline (Dat)
open Cert.FfnLIdeal Cert.FfnLIdeal.Gen
open Cert.Cells (ex_ix2 readCov_canon)
open Cert.FfnFIdeal.Hand (invB xnB colB sigB siluB dgB)

variable (m : (ℓ : Loc nD τ sig) → Buf (Elt Ideal) ℓ) (c : Dev nD) (t : Fin cfg0.N)

theorem hid_at (i : Fin 512) (e : Fin 2816) : (outsAt0 m c t.val t.isLt).2.2.2.2.2.2.2.2 (ix2 i e)
    = siluB (iblk m c 0 t) (iblk m c 1 t) (iblk m c 2 t) i e * colB (iblk m c 0 t) (iblk m c 1 t) i e (iblk m c 3 t) := by
  by_cases a0 : t.val % 8 = 0
  · rw [outsAt0_A m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  · rw [outsAt0_B m c t a0]
    frame_open
    simp (disch := decide) only [↓ View.readCov_skip, ↓ View.readCov_fill]
    frame_out
    generalize hy : ix2 i e = y
    canon_tiles x hh
    all_goals
      obtain ⟨a, b, rfl⟩ := ex_ix2 x
      subst hy
      obtain rfl : i = a := Fin.ext hh0
      obtain ⟨e, he⟩ := e
      first
        | have h2 : e = _ + b.val := hh1
          subst h2
        | have h2 : e = b.val := hh1
          subst h2
      pointwise [siluB, colB, xnB, invB, sigB, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]

end Cert.FfnLIdeal.Hand
end
-- ==== Proof.FfnLMath.lean ====
module

public import proofs.«01_k».proof.Proof.FfnFFinal
public import proofs.«01_k».proof.Proof.Gen.FfnLRefIdeal

@[expose] public section

/-! The loss and its gradient in the reference: the stages, each at an index, and the arithmetic by which the kernel's form of
them is equal. -/

set_option maxRecDepth 16384

noncomputable section

namespace Cert.FfnLRefIdeal.Hand

open Idealize.ShloMosaic Idealize.ShloMosaic.TcCoe Idealize.SL.Sem
open Cert.FfnLRefIdeal Cert.FfnLRefIdeal.Gen
open Cert.Reals
open Cert.AttnRefIdeal.Hand (rVar rInv rXhat rW rC rVar_apply rInv_apply rXhat_apply rW_apply rC_apply)

/-- The error: the normalised rows with the final gain less the target. -/
def rErr (xh : FVec Ideal S4096x1024 .f32) (g : FVec Ideal S1024 .f32) (tg : FVec Ideal S4096x1024 .f32) : FVec Ideal S4096x1024 .f32 :=
  subf (mulf xh (broadcastInDim S4096x1024 ![0, 1] bcast_S1x1024_S4096x1024_0_1 (broadcastInDim S1x1024 ![1] bcast_S1024_S1x1024_1 g))) tg

/-- The gradient of the loss by the normalised rows with their gain. -/
def rDy (err : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) err)

/-- Half the sum of the rows' mean square errors. -/
def rLoss (err : FVec Ideal S4096x1024 .f32) : FVec Ideal S1x1 .f32 :=
  shapeCast _ (mulf (constant S_ .f32 0x3F000000#32) (Host.reduceAdd (Host.divf (Host.reduceAdd (mulf err err) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

/-- The gradient of the rows. -/
def rDrow (x : FVec Ideal S4096x1024 .f32) (inv : FVec Ideal S4096x1 .f32) (w : FVec Ideal S4096x1024 .f32) (cf : FVec Ideal S4096x1024 .f32) : FVec Ideal S4096x1024 .f32 :=
  addf (addf (mulf w (broadcastInDim S4096x1024 ![0, 1] bcast_S4096x1_S4096x1024_0_1 inv)) (mulf x cf)) (mulf cf x)

variable (x xh tg err w cf : FVec Ideal S4096x1024 .f32) (inv : FVec Ideal S4096x1 .f32) (g : FVec Ideal S1024 .f32) (s : Fin 4096) (d : Fin 1024)

theorem rErr_apply : rErr xh g tg (ix2 s d) = xh (ix2 s d) * g (ix1 d) - tg (ix2 s d) := by
  pointwise [rErr]

theorem rDy_apply : rDy err (ix2 s d) = Ideal.div (Ideal.ofBits .f32 0x3F000000#32 * Ideal.ofBits .f32 0x3F800000#32) (Ideal.ofBits .f32 0x44800000#32)
    * (Ideal.ofBits .f32 0x40000000#32 * err (ix2 s d)) := by
  pointwise [rDy]

theorem rLoss_apply : rLoss err (ix2 0 0) = Ideal.ofBits .f32 0x3F000000#32
    * ∑ s, Ideal.div (∑ d, err (ix2 s d) * err (ix2 s d)) (Ideal.ofBits .f32 0x44800000#32) := by
  pointwise [rLoss]

theorem rDrow_apply : rDrow x inv w cf (ix2 s d) = (w (ix2 s d) * inv (ix2 s 0) + x (ix2 s d) * cf (ix2 s d)) + cf (ix2 s d) * x (ix2 s d) := by
  pointwise [rDrow]

theorem lit_half : Ideal.ofBits .f32 0x3F000000#32 = ((1/2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024th : Ideal.ofBits .f32 0x3A800000#32 = ((1/1024 : ℝ) : EReal) := by
  simp [Ideal.ofBits, Ideal.ieee, -EReal.coe_mul]; norm_num
theorem lit_2048th : Ideal.ofBits .f32 0x3A000000#32 = ((1/2048 : ℝ) : EReal) := by
  simp [Ideal.ofBits, Ideal.ieee, -EReal.coe_mul]; norm_num

/-- The kernel multiplies the error by 1/1024; the reference by half of it, and by two. -/
theorem dy_eq : err (ix2 s d) * Ideal.ofBits .f32 0x3A800000#32 = rDy err (ix2 s d) := by
  rw [rDy_apply, lit_half, lit_one, lit_1024, lit_two, lit_1024th, div_coe _ (by norm_num), mul_one, ← mul_assoc, mul_comm]
  congr 1
  norm_cast
  norm_num

/-- The kernel multiplies a sum of squares by 1/2048; the reference takes half of the mean. -/
theorem part_eq (a : EReal) : a * Ideal.ofBits .f32 0x3A000000#32
    = Ideal.ofBits .f32 0x3F000000#32 * Ideal.div a (Ideal.ofBits .f32 0x44800000#32) := by
  rw [lit_half, lit_1024, lit_2048th, div_coe _ (by norm_num), mul_left_comm]
  congr 1
  norm_cast
  norm_num

/-- The kernel multiplies the squares of a block of rows after their sum. -/
theorem part_sum {n : Nat} (f : Fin n → EReal) : (∑ i, f i) * Ideal.ofBits .f32 0x3A000000#32 = ∑ i, f i * Ideal.ofBits .f32 0x3A000000#32 := by
  rw [lit_2048th, mul_comm, ← mul_sum_coe _ _ (by norm_num)]
  exact Finset.sum_congr rfl fun i _ => mul_comm _ _

theorem loss_eq : ∑ s, (∑ d, err (ix2 s d) * err (ix2 s d)) * Ideal.ofBits .f32 0x3A000000#32 = rLoss err (ix2 0 0) := by
  rw [rLoss_apply, lit_half, ← mul_sum_coe _ _ (by norm_num), ← lit_half]
  exact Finset.sum_congr rfl fun s _ => part_eq _

/-- The gradient through the final norm. -/
theorem drow_eq : rInv (rVar x) (ix2 s 0) * (w (ix2 s d) - x (ix2 s d) * rInv (rVar x) (ix2 s 0)
      * Ideal.div (∑ l, w (ix2 s l) * (x (ix2 s l) * rInv (rVar x) (ix2 s 0))) (Ideal.ofBits .f32 0x44800000#32))
    = rDrow x (rInv (rVar x)) w (rC x (rVar x) (rInv (rVar x)) w) (ix2 s d) := by
  rw [rDrow_apply, rC_apply, rInv_apply, rVar_apply]
  have h := rms_grad_any (fun l => x (ix2 s l)) (fun l => w (ix2 s l)) 0 d
  rw [zero_add, zero_add] at h
  exact h

end Cert.FfnLRefIdeal.Hand
end
-- ==== Proof.FfnLFinal.lean ====
module

public import proofs.«01_k».proof.Proof.FfnLWinG
public import proofs.«01_k».proof.Proof.FfnLWinS
public import proofs.«01_k».proof.Proof.FfnLWinH
public import proofs.«01_k».proof.Proof.FfnLMath
public import proofs.«01_k».proof.Proof.AttnFinal

@[expose] public section

/-! The nine arrays the last feed forward layer's kernel leaves are the reference's stages at the program's arrays, the saved
derivative in the gate where the gain and the up projection's weight are real. Point `t` works on rows `512 t … 512 t + 511`; the
weights and the gains are whole at every point. -/

set_option maxRecDepth 16384

noncomputable section

namespace Cert.FfnLIdeal.Hand

open Idealize.ShloMosaic Idealize.ShloMosaic.TcCoe Idealize.SL.Sem
open Idealize.ShloMosaic.Pipeline (Dat)
open Cert.FfnLIdeal Cert.FfnLIdeal.Gen
open Cert.Cells (ex_ix2 readCov_canon)
open Cert.FfnFIdeal.Hand (invB xnB colB sigB siluB dgB)
open Cert.Reals
open Cert.AttnRefIdeal.Hand (rVar rInv rXhat rW rC rDgain rVar_apply rInv_apply rXhat_apply rW_apply rDgain_apply)
open Cert.AttnIdeal.Hand (sum_rows)
open Cert.FfnRefIdeal.Hand
open Cert.FfnFIdeal.Hand (rOut rOut_apply)
open Cert.FfnLRefIdeal.Hand

variable (m : (ℓ : Loc nD τ sig) → Buf (Elt Ideal) ℓ) (c : Dev nD)

/-- The program's arrays. -/
abbrev kx : FVec Ideal S4096x1024 .f32 := m ((c : Thread nD τ).loc main_arg0)
abbrev kg : FVec Ideal S1024 .f32 := m ((c : Thread nD τ).loc main_arg1)
abbrev kwg : FVec Ideal S1024x2816 .f32 := m ((c : Thread nD τ).loc main_arg2)
abbrev kwu : FVec Ideal S1024x2816 .f32 := m ((c : Thread nD τ).loc main_arg3)
abbrev kwd : FVec Ideal S2816x1024 .f32 := m ((c : Thread nD τ).loc main_arg4)
abbrev ktg : FVec Ideal S4096x1024 .f32 := m ((c : Thread nD τ).loc main_arg5)
abbrev kfg : FVec Ideal S1024 .f32 := m ((c : Thread nD τ).loc main_arg6)

/-- The stages of the layer at the program's arrays. -/
abbrev sInv := rInv (rVar (kx m c))
abbrev sXn := rXn (kg m c) (rXhat (kx m c) (sInv m c))
abbrev sGate := rCol (sXn m c) (kwg m c)
abbrev sUp := rCol (sXn m c) (kwu m c)
abbrev sSig := rSig (sGate m c)
abbrev sSilu := rSilu (sGate m c) (sSig m c)
abbrev sHid := mulf (sSilu m c) (sUp m c)
abbrev sDg := rDgate (sGate m c) (sSig m c) (rSigD (sSig m c)) (mulf rOne (sUp m c))

/-- The stages of the loss at the layer's output. -/
abbrev sY := rOut (kx m c) (sHid m c) (kwd m c)
abbrev sYh := rXhat (sY m c) (rInv (rVar (sY m c)))
abbrev sErr := rErr (sYh m c) (kfg m c) (ktg m c)
abbrev sDy := rDy (sErr m c)
abbrev sW := rW (kfg m c) (sDy m c)
abbrev sDx := rDrow (sY m c) (rInv (rVar (sY m c))) (sW m c) (rC (sY m c) (rVar (sY m c)) (rInv (rVar (sY m c))) (sW m c))

/-- The gain and the up projection's weight are real. -/
structure Real : Prop where
  g : ∀ i, IsR (kg m c i)
  wu : ∀ i, IsR (kwu m c i)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![0, 0] ∧ win0_7.index t = ![t.val, 0] ∧ win0_8.index t = ![t.val, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧
    t.val < 8 :=
  (by decide +kernel : ∀ t : Fin grid0.N, _)

/-- Row `i` of point `t`'s block. -/
def row (t : Fin cfg0.N) (i : Fin 512) : Fin 4096 := ⟨t.val * 512 + i.val, by have := (idx t).2.2.2.2.2.2.2.2.2.2.2.2.2.2.2.2; omega⟩

theorem row_val (t : Fin cfg0.N) (i : Fin 512) : (row t i).val = t.val * 512 + i.val := rfl

variable (t : Fin cfg0.N)

theorem V0 : (V m c main_v0 : FVec Ideal S1x1024 .f32) = shapeCast S1x1024 (kg m c) shapeCasts_S1024_S1x1024 := by entry_read; rfl
theorem V2 : (V m c main_v2 : FVec Ideal S2816x1024 .bf16)
    = transpose S2816x1024 [1, 0] (kwg m c) transposes_S1024x2816_S2816x1024_1_0 := by entry_read; rfl
theorem V4 : (V m c main_v4 : FVec Ideal S2816x1024 .bf16)
    = transpose S2816x1024 [1, 0] (kwu m c) transposes_S1024x2816_S2816x1024_1_0 := by entry_read; rfl
theorem V5 : (V m c main_v5 : FVec Ideal S2816x1024 .bf16) = kwd m c := by entry_read; rfl

theorem blk0 (i : Fin 512) (e : Fin 1024) : iblk m c 0 t (ix2 i e) = kx m c (ix2 (row t i) e) := by
  have a0 := row_val t i
  blk_ext [iblk, V, idx t]
theorem blk1 (e : Fin 1024) : iblk m c 1 t (ix2 0 e) = kg m c (ix1 e) := by
  have a0 : iblk m c 1 t (ix2 0 e) = V m c main_v0 (ix2 0 e) := by blk_ext [iblk, idx t]
  rw [a0, V0 m c]
  pointwise
theorem blk2 (e : Fin 2816) (d : Fin 1024) : iblk m c 2 t (ix2 e d) = kwg m c (ix2 d e) := by
  have a0 : iblk m c 2 t (ix2 e d) = V m c main_v2 (ix2 e d) := by blk_ext [iblk, idx t]
  rw [a0, V2 m c]
  pointwise
theorem blk3 (e : Fin 2816) (d : Fin 1024) : iblk m c 3 t (ix2 e d) = kwu m c (ix2 d e) := by
  have a0 : iblk m c 3 t (ix2 e d) = V m c main_v4 (ix2 e d) := by blk_ext [iblk, idx t]
  rw [a0, V4 m c]
  pointwise
theorem blk4 : iblk m c 4 t = kwd m c := by rw [← V5 m c]; blk_ext! [iblk, idx t]

theorem V6 : (V m c main_v6 : FVec Ideal S1x1024 .f32) = shapeCast S1x1024 (kfg m c) shapeCasts_S1024_S1x1024 := by entry_read; rfl
theorem blk5 (i : Fin 512) (e : Fin 1024) : iblk m c 5 t (ix2 i e) = ktg m c (ix2 (row t i) e) := by
  have a0 := row_val t i
  blk_ext [iblk, V, idx t]
theorem blk6 (e : Fin 1024) : iblk m c 6 t (ix2 0 e) = kfg m c (ix1 e) := by
  have a0 : iblk m c 6 t (ix2 0 e) = V m c main_v6 (ix2 0 e) := by blk_ext [iblk, idx t]
  rw [a0, V6 m c]
  pointwise

/-! ## The stages at a point's rows -/

theorem inv_row (i : Fin 512) : invB (iblk m c 0 t) i = sInv m c (ix2 (row t i) 0) := by
  refine Eq.trans ?_ (rInv_apply ..).symm
  rw [rVar_apply, invB]
  simp only [blk0]

theorem xn_row (i : Fin 512) (e : Fin 1024) : xnB (iblk m c 0 t) (iblk m c 1 t) i e = sXn m c (ix2 (row t i) e) := by
  refine Eq.trans ?_ (rXn_apply ..).symm
  rw [rXhat_apply, xnB, inv_row, blk0, blk1]

theorem gate_row (i : Fin 512) (e : Fin 2816) : colB (iblk m c 0 t) (iblk m c 1 t) i e (iblk m c 2 t) = sGate m c (ix2 (row t i) e) := by
  refine Eq.trans ?_ (rCol_apply ..).symm
  exact Finset.sum_congr rfl fun y _ => by rw [xn_row, blk2]

theorem up_row (i : Fin 512) (e : Fin 2816) : colB (iblk m c 0 t) (iblk m c 1 t) i e (iblk m c 3 t) = sUp m c (ix2 (row t i) e) := by
  refine Eq.trans ?_ (rCol_apply ..).symm
  exact Finset.sum_congr rfl fun y _ => by rw [xn_row, blk3]

theorem sig_row (s : Fin 4096) (e : Fin 2816) : sigB (sGate m c (ix2 s e)) = sSig m c (ix2 s e) := by
  refine Eq.trans ?_ (rSig_apply ..).symm
  rw [sigB, zero_sub]

theorem silu_row (i : Fin 512) (e : Fin 2816) : siluB (iblk m c 0 t) (iblk m c 1 t) (iblk m c 2 t) i e = sSilu m c (ix2 (row t i) e) := by
  refine Eq.trans ?_ (rSilu_apply ..).symm
  rw [siluB, gate_row, sig_row]

theorem hid_row (i : Fin 512) (e : Fin 2816) : (outsAt0 m c t.val t.isLt).2.2.2.2.2.2.2.2 (ix2 i e) = sHid m c (ix2 (row t i) e) := by
  rw [hid_at, silu_row, up_row]
  rfl

theorem dg_row (hr : Real m c) (i : Fin 512) (e : Fin 2816) : (outsAt0 m c t.val t.isLt).2.2.2.2.2.2.1 (ix2 i e) = sDg m c (ix2 (row t i) e) := by
  have hn := xn_real (kx m c) _ hr.g
  obtain ⟨hs, hg⟩ := sig_cases (sGate m c) (row t i) e
  rw [dg_at, dgB, silu_row, up_row, gate_row, sig_row]
  refine Eq.trans ?_ (rDgate_apply ..).symm
  rw [rSigD_apply, show sSilu m c (ix2 (row t i) e) = sGate m c (ix2 (row t i) e) * sSig m c (ix2 (row t i) e) from rSilu_apply ..]
  show _ = rOne (ix2 (row t i) e) * sUp m c (ix2 (row t i) e) * sSig m c (ix2 (row t i) e)
      + sGate m c (ix2 (row t i) e) * (rOne (ix2 (row t i) e) * sUp m c (ix2 (row t i) e))
        * (sSig m c (ix2 (row t i) e) * (Ideal.ofBits .f32 0x3F800000#32 - sSig m c (ix2 (row t i) e)))
  rw [rOne_apply, lit_one]
  exact gate_saved (col_real _ _ hn hr.wu _) hs hg

theorem silu_one (z : FVec Ideal S4096x2816 .f32) (s : Fin 4096) (e : Fin 2816) : z (ix2 s e) = mulf z rOne (ix2 s e) := by
  show _ = z (ix2 s e) * rOne (ix2 s e)
  rw [rOne_apply, lit_one, mul_one]

/-! ## The loss at a point's rows -/

theorem y_row (i : Fin 512) : yB (iblk m c 0 t) (k0_pay86 (outsAt0 m c t.val t.isLt).2.2.2.2.2.2.2.2 (iblk m c 4 t)) i = fun e => sY m c (ix2 (row t i) e) := by
  funext e
  rw [yB, acc_apply, blk0, blk4]
  refine Eq.trans ?_ (rOut_apply ..).symm
  exact congrArg _ (Finset.sum_congr rfl fun y _ => by rw [hid_row])

theorem rs_row (i : Fin 512) : rsB (iblk m c 0 t) (k0_pay86 (outsAt0 m c t.val t.isLt).2.2.2.2.2.2.2.2 (iblk m c 4 t)) i = rInv (rVar (sY m c)) (ix2 (row t i) 0) := by
  refine Eq.trans ?_ (rInv_apply ..).symm
  rw [rVar_apply, rsB, y_row]
  rfl

theorem yh_row (i : Fin 512) (e : Fin 1024) : yB (iblk m c 0 t) (k0_pay86 (outsAt0 m c t.val t.isLt).2.2.2.2.2.2.2.2 (iblk m c 4 t)) i e * rsB (iblk m c 0 t) (k0_pay86 (outsAt0 m c t.val t.isLt).2.2.2.2.2.2.2.2 (iblk m c 4 t)) i = sYh m c (ix2 (row t i) e) := by
  refine Eq.trans ?_ (rXhat_apply ..).symm
  rw [rs_row, y_row]

theorem err_row (i : Fin 512) (e : Fin 1024) : errB (iblk m c 0 t) (k0_pay86 (outsAt0 m c t.val t.isLt).2.2.2.2.2.2.2.2 (iblk m c 4 t)) (iblk m c 5 t) (iblk m c 6 t) i e = sErr m c (ix2 (row t i) e) := by
  refine Eq.trans ?_ (rErr_apply ..).symm
  rw [errB, yh_row, blk5, blk6]

theorem dy_row (i : Fin 512) (e : Fin 1024) : dyB (iblk m c 0 t) (k0_pay86 (outsAt0 m c t.val t.isLt).2.2.2.2.2.2.2.2 (iblk m c 4 t)) (iblk m c 5 t) (iblk m c 6 t) i e = sDy m c (ix2 (row t i) e) := by
  rw [dyB, err_row]
  exact dy_eq _ _ _

theorem dx_row (i : Fin 512) (e : Fin 1024) : (outsAt0 m c t.val t.isLt).1 (ix2 i e) = sDx m c (ix2 (row t i) e) := by
  have a0 := drow_eq (sY m c) (sW m c) (row t i) e
  refine Eq.trans ?_ a0
  have a1 : ∀ l, sW m c (ix2 (row t i) l) = sDy m c (ix2 (row t i) l) * kfg m c (ix1 l) := fun l => rW_apply ..
  rw [dx_eq, dx_apply, dxB]
  simp only [dy_row, blk6, a1, rs_row, y_row]

/-- What a point adds to the gradient of the final gain, and to the loss. -/
def gainB (e : Fin 1024) : EReal := ∑ i, sYh m c (ix2 (row t i) e) * sDy m c (ix2 (row t i) e)
def partB : EReal := ∑ i, (∑ l, sErr m c (ix2 (row t i) l) * sErr m c (ix2 (row t i) l)) * Ideal.ofBits .f32 0x3A000000#32

theorem gain_add (acc : S1x1024.Idx → EReal) (e : Fin 1024) :
    k0_pay2 (k0_pay95 (iblk m c 0 t) (k0_pay86 (outsAt0 m c t.val t.isLt).2.2.2.2.2.2.2.2 (iblk m c 4 t)) (iblk m c 5 t) (iblk m c 6 t)) acc (ix2 0 e) = acc (ix2 0 e) + gainB m c t e := by
  rw [dgain_apply]
  refine congrArg _ (Finset.sum_congr rfl fun i _ => ?_)
  rw [dy_row, yh_row, mul_comm]

theorem part_add (acc : S1x1.Idx → EReal) :
    k0_pay3 (k0_pay94 (iblk m c 0 t) (k0_pay86 (outsAt0 m c t.val t.isLt).2.2.2.2.2.2.2.2 (iblk m c 4 t)) (iblk m c 5 t) (iblk m c 6 t)) acc (ix2 0 0) = acc (ix2 0 0) + partB m c t := by
  rw [loss_apply, part_sum]
  refine congrArg _ (Finset.sum_congr rfl fun i _ => ?_)
  simp only [err_row]

theorem gain_last (e : Fin 1024) :
    (outsAt0 m c t0_7.val t0_7.isLt).2.2.1 (ix2 0 e) = rDgain (sYh m c) (sDy m c) (ix2 0 e) := by
  have a0 := Pipeline.eq_sum_fin_of_reset_step_apply_last (fun n' h (_ : Unit) => (outsAt0 m c n' h).2.2.1 (ix2 0 e)) 8 (fun _ => (0 : EReal))
    (fun t _ => gainB m c t e)
    (fun t h _ => by
      show (outsAt0 m c t.val t.isLt).2.2.1 (ix2 0 e) = _
      rw [dgain_eq_A m c t h, gain_add m c t]
      congr 1
      pointwise [k0_pay96])
    (fun t h _ => by
      show (outsAt0 m c t.val t.isLt).2.2.1 (ix2 0 e) = _
      rw [dgain_eq_B m c t h, gain_add m c t]) (le_of_eq N_0) t0_7 rfl ()
  refine a0.trans ?_
  rw [zero_add, rDgain_apply]
  exact sum_rows N_0 (fun s => sYh m c (ix2 s e) * sDy m c (ix2 s e)) row row_val

theorem loss_last : (outsAt0 m c t0_7.val t0_7.isLt).2.2.2.1 (ix2 0 0) = rLoss (sErr m c) (ix2 0 0) := by
  have a0 := Pipeline.eq_sum_fin_of_reset_step_apply_last (fun n' h (_ : Unit) => (outsAt0 m c n' h).2.2.2.1 (ix2 0 0)) 8 (fun _ => (0 : EReal))
    (fun t _ => partB m c t)
    (fun t h _ => by
      show (outsAt0 m c t.val t.isLt).2.2.2.1 (ix2 0 0) = _
      rw [loss_eq_A m c t h, part_add m c t]
      congr 1
      pointwise [k0_pay97])
    (fun t h _ => by
      show (outsAt0 m c t.val t.isLt).2.2.2.1 (ix2 0 0) = _
      rw [loss_eq_B m c t h, part_add m c t]) (le_of_eq N_0) t0_7 rfl ()
  refine a0.trans ?_
  rw [zero_add, ← loss_eq]
  exact sum_rows N_0 (fun s => (∑ l, sErr m c (ix2 s l) * sErr m c (ix2 s l)) * Ideal.ofBits .f32 0x3A000000#32) row row_val

/-! ## The arrays after the run -/

theorem final7 : (dats m 0 c).arrAt 7 cfg0.N = sDx m c := by
  refine (dats m 0 c).arrAt_eq_of_covers 7 _ (by decide +kernel) fun t hf y => ?_
  blk_simp
  rw [after0_7]
  obtain ⟨i, e, rfl⟩ := ex_ix2 y
  refine (dx_row m c t i e).trans ?_
  have a0 := row_val t i
  blk_ext [idx t]

theorem final8 : (dats m 0 c).arrAt 8 cfg0.N = sDx m c := by
  refine (dats m 0 c).arrAt_eq_of_covers 8 _ (by decide +kernel) fun t hf y => ?_
  blk_simp
  rw [after0_8]
  obtain ⟨i, e, rfl⟩ := ex_ix2 y
  refine ((congrFun (dxb_eq m c t) _).trans (dx_row m c t i e)).trans ?_
  have a0 := row_val t i
  blk_ext [idx t]

theorem final9 : (dats m 0 c).arrAt 9 cfg0.N = rDgain (sYh m c) (sDy m c) := by
  refine (dats m 0 c).arrAt_eq_of_after_last 9 t0_7 (by decide +kernel) _ fun y => ?_
  blk_simp
  rw [after0_9]
  obtain ⟨i, e, rfl⟩ := ex_ix2 y
  obtain rfl : i = 0 := Subsingleton.elim _ _
  exact gain_last m c e

theorem final10 : (dats m 0 c).arrAt 10 cfg0.N = rLoss (sErr m c) := by
  refine (dats m 0 c).arrAt_eq_of_after_last 10 t0_7 (by decide +kernel) _ fun y => ?_
  blk_simp
  rw [after0_10]
  obtain ⟨i, e, rfl⟩ := ex_ix2 y
  obtain rfl : i = 0 := Subsingleton.elim _ _
  obtain rfl : e = 0 := Subsingleton.elim _ _
  exact loss_last m c

theorem final11 : (dats m 0 c).arrAt 11 cfg0.N = sXn m c := by
  refine (dats m 0 c).arrAt_eq_of_covers 11 _ (by decide +kernel) fun t hf y => ?_
  blk_simp
  rw [after0_11]
  obtain ⟨i, e, rfl⟩ := ex_ix2 y
  refine ((xn_at m c t i e).trans (xn_row m c t i e)).trans ?_
  have a0 := row_val t i
  blk_ext [idx t]

theorem final12 : (dats m 0 c).arrAt 12 cfg0.N = sInv m c := by
  refine (dats m 0 c).arrAt_eq_of_covers 12 _ (by decide +kernel) fun t hf y => ?_
  blk_simp
  rw [after0_12]
  obtain ⟨i, e, rfl⟩ := ex_ix2 y
  obtain rfl : e = 0 := Subsingleton.elim _ _
  refine ((inv_at m c t i).trans (inv_row m c t i)).trans ?_
  have a0 := row_val t i
  blk_ext [idx t]

theorem final13 (hr : Real m c) : (dats m 0 c).arrAt 13 cfg0.N = sDg m c := by
  refine (dats m 0 c).arrAt_eq_of_covers 13 _ (by decide +kernel) fun t hf y => ?_
  blk_simp
  rw [after0_13]
  obtain ⟨i, e, rfl⟩ := ex_ix2 y
  refine (dg_row m c t hr i e).trans ?_
  have a0 := row_val t i
  blk_ext [idx t]

theorem final14 : (dats m 0 c).arrAt 14 cfg0.N = mulf (sSilu m c) rOne := by
  refine (dats m 0 c).arrAt_eq_of_covers 14 _ (by decide +kernel) fun t hf y => ?_
  blk_simp
  rw [after0_14]
  obtain ⟨i, e, rfl⟩ := ex_ix2 y
  refine ((silu_at m c t i e).trans ((silu_row m c t i e).trans (silu_one (sSilu m c) (row t i) e))).trans ?_
  have a0 := row_val t i
  blk_ext [idx t]

theorem final15 : (dats m 0 c).arrAt 15 cfg0.N = sHid m c := by
  refine (dats m 0 c).arrAt_eq_of_covers 15 _ (by decide +kernel) fun t hf y => ?_
  blk_simp
  rw [after0_15]
  obtain ⟨i, e, rfl⟩ := ex_ix2 y
  refine (hid_row m c t i e).trans ?_
  have a0 := row_val t i
  blk_ext [idx t]

end Cert.FfnLIdeal.Hand
end
-- ==== Proof.FfnLClaim.lean ====
module

public import proofs.«01_k».proof.Proof.FfnLFinal
public import proofs.«01_k».proof.Proof.FfnFClaim
public import proofs.«01_k».proof.Defs
public import proofs.«01_k».proof.Proof.Gen.Pre_finite_gates_l
public import proofs.«01_k».proof.Proof.Gen.FfnLIdeal.Value
public import proofs.«01_k».proof.Proof.Gen.FfnLRefIdeal.Run
public import Idealize.ShloMosaic.Adequacy
public import Idealize.ShloMosaic.Init

@[expose] public section

/-! The last feed forward layer with the loss, its gradient and the arrays the layer saves: the kernel and the reference leave
equal arrays where the gain and the up projection's weight are real. -/

set_option maxRecDepth 16384

noncomputable section

namespace Cert.FfnLRefIdeal.Hand

open Idealize.ShloMosaic Idealize.ShloMosaic.TcCoe Idealize.ShloMosaic.StableHlo Idealize.SL.Sem
open Cert.FfnLRefIdeal Cert.FfnLRefIdeal.Gen Cert.FfnLRefIdeal.Value
open Cert.AttnRefIdeal.Hand (rVar rInv rXhat rW rC rDgain)
open Cert.FfnFIdeal.Hand (rOut)
open Cert.FfnFRefIdeal.Hand (xnOf siluOf hidOf dgOf)

variable (m : (ℓ : Loc nD τ sig) → Buf (Elt Ideal) ℓ) (c : Dev nD)

/-- The reference's arrays. -/
abbrev ax : FVec Ideal S4096x1024 .f32 := m ((c.tc : Thread nD τ).loc main_arg0)
abbrev ag : FVec Ideal S1024 .f32 := m ((c.tc : Thread nD τ).loc main_arg1)
abbrev awg : FVec Ideal S1024x2816 .f32 := m ((c.tc : Thread nD τ).loc main_arg2)
abbrev awu : FVec Ideal S1024x2816 .f32 := m ((c.tc : Thread nD τ).loc main_arg3)
abbrev awd : FVec Ideal S2816x1024 .f32 := m ((c.tc : Thread nD τ).loc main_arg4)
abbrev atg : FVec Ideal S4096x1024 .f32 := m ((c.tc : Thread nD τ).loc main_arg5)
abbrev afg : FVec Ideal S1024 .f32 := m ((c.tc : Thread nD τ).loc main_arg6)

/-- The stages, as functions of the arrays: the layer's output, and from it what the loss leaves. -/
def yOf (x : FVec Ideal S4096x1024 .f32) (g : FVec Ideal S1024 .f32) (wg wu : FVec Ideal S1024x2816 .f32) (wd : FVec Ideal S2816x1024 .f32) :
    FVec Ideal S4096x1024 .f32 :=
  rOut x (hidOf x g wg wu) wd
def yhOf (y : FVec Ideal S4096x1024 .f32) : FVec Ideal S4096x1024 .f32 := rXhat y (rInv (rVar y))
def errOf (y tg : FVec Ideal S4096x1024 .f32) (fg : FVec Ideal S1024 .f32) : FVec Ideal S4096x1024 .f32 := rErr (yhOf y) fg tg
def wOf (y tg : FVec Ideal S4096x1024 .f32) (fg : FVec Ideal S1024 .f32) : FVec Ideal S4096x1024 .f32 := rW fg (rDy (errOf y tg fg))
def dxOf (y tg : FVec Ideal S4096x1024 .f32) (fg : FVec Ideal S1024 .f32) : FVec Ideal S4096x1024 .f32 :=
  rDrow y (rInv (rVar y)) (wOf y tg fg) (rC y (rVar y) (rInv (rVar y)) (wOf y tg fg))

variable (m' : (ℓ : Loc nD τ sig) → Buf (Elt Ideal) ℓ)

theorem res0 : res_out0 m' c = dxOf (yOf (ax m' c) (ag m' c) (awg m' c) (awu m' c) (awd m' c)) (atg m' c) (afg m' c) := rfl
theorem res1 : res_out1 m' c = truncf .bf16 (dxOf (yOf (ax m' c) (ag m' c) (awg m' c) (awu m' c) (awd m' c)) (atg m' c) (afg m' c)) bitsLt_bf16_f32 := rfl
theorem res2 : res_out2 m' c = rDgain (yhOf (yOf (ax m' c) (ag m' c) (awg m' c) (awu m' c) (awd m' c))) (rDy (errOf (yOf (ax m' c) (ag m' c) (awg m' c) (awu m' c) (awd m' c)) (atg m' c) (afg m' c))) := rfl
theorem res3 : res_out3 m' c = rLoss (errOf (yOf (ax m' c) (ag m' c) (awg m' c) (awu m' c) (awd m' c)) (atg m' c) (afg m' c)) := rfl
theorem res6 : res_out6 m' c = truncf .bf16 (dgOf (ax m' c) (ag m' c) (awg m' c) (awu m' c)) bitsLt_bf16_f32 := rfl

end Cert.FfnLRefIdeal.Hand

namespace Cert.FfnLIdeal.Hand

open Idealize.ShloMosaic Idealize.ShloMosaic.TcCoe Idealize.SL.Sem
open Cert.Reals

/-- The precondition says that the gain and the up projection's weight are real. -/
theorem real_of_pre (m : (ℓ : Loc nD τ sig) → Buf (Elt Ideal) ℓ) (h : Cert.Pre_FfnLIdeal_finite_gates_l m) (c : Dev nD) : Real m c := by
  obtain ⟨h0, h1⟩ := h c
  exact ⟨fun i => isR_of_abs_lt (congrFun h0 i), fun i => isR_of_abs_lt (congrFun h1 i)⟩

open Cert.FfnLRefIdeal.Hand Cert.FfnFRefIdeal.Hand in
theorem algebraic : Cert.algebraic_FfnLIdeal_FfnLRefIdeal_pre_finite_gates_l := by
  intro m g m' g' hp hm
  refine ⟨_, _, _, _, _, _, _, _, _, Cert.FfnLIdeal.Value.run_blocks m g, ?_⟩
  refine (θ_run _ _ _).mono (fun r h c => ?_) (Cert.FfnLRefIdeal.Value.run m' g')
  obtain ⟨e0, e1, e2, e3, e4, e5, e6, e7, e8, e9⟩ := h c
  obtain ⟨h0, h1, h2, h3, h4, h5, h6⟩ := hm c
  have hr := real_of_pre m hp c
  have b0 : Cert.FfnLRefIdeal.Hand.ax m' c = kx m c := h0
  have b1 : Cert.FfnLRefIdeal.Hand.ag m' c = kg m c := h1
  have b2 : Cert.FfnLRefIdeal.Hand.awg m' c = kwg m c := h2
  have b3 : Cert.FfnLRefIdeal.Hand.awu m' c = kwu m c := h3
  have b4 : Cert.FfnLRefIdeal.Hand.awd m' c = kwd m c := h4
  have b5 : Cert.FfnLRefIdeal.Hand.atg m' c = ktg m c := h5
  have b6 : Cert.FfnLRefIdeal.Hand.afg m' c = kfg m c := h6
  refine ⟨e0.trans ?_, e1.trans ?_, e2.trans ?_, e3.trans ?_, e4.trans ?_, e5.trans ?_, e6.trans ?_, e7.trans ?_, e8.trans ?_, e9⟩
  · rw [final7 m c]
    refine (res0 c m').trans ?_
    rw [b0, b1, b2, b3, b4, b5, b6]
    rfl
  · rw [final8 m c]
    refine (res1 c m').trans ?_
    rw [b0, b1, b2, b3, b4, b5, b6]
    rfl
  · rw [final9 m c]
    refine (res2 c m').trans ?_
    rw [b0, b1, b2, b3, b4, b5, b6]
    rfl
  · rw [final10 m c]
    refine (res3 c m').trans ?_
    rw [b0, b1, b2, b3, b4, b5, b6]
    rfl
  · rw [final11 m c]
    show truncf .bf16 (xnOf (Cert.FfnLRefIdeal.Hand.ax m' c) (Cert.FfnLRefIdeal.Hand.ag m' c)) Cert.FfnLRefIdeal.Gen.bitsLt_bf16_f32 = _
    rw [b0, b1]
    rfl
  · rw [final12 m c]
    show Cert.AttnRefIdeal.Hand.rInv (Cert.AttnRefIdeal.Hand.rVar (Cert.FfnLRefIdeal.Hand.ax m' c)) = _
    rw [b0]
  · rw [final13 m c hr]
    refine (res6 c m').trans ?_
    rw [b0, b1, b2, b3]
    rfl
  · rw [final14 m c]
    show truncf .bf16 (mulf (siluOf (Cert.FfnLRefIdeal.Hand.ax m' c) (Cert.FfnLRefIdeal.Hand.ag m' c) (Cert.FfnLRefIdeal.Hand.awg m' c)) Cert.FfnRefIdeal.Hand.rOne) Cert.FfnLRefIdeal.Gen.bitsLt_bf16_f32 = _
    rw [b0, b1, b2]
    rfl
  · rw [final15 m c]
    show truncf .bf16 (hidOf (Cert.FfnLRefIdeal.Hand.ax m' c) (Cert.FfnLRefIdeal.Hand.ag m' c) (Cert.FfnLRefIdeal.Hand.awg m' c) (Cert.FfnLRefIdeal.Hand.awu m' c)) Cert.FfnLRefIdeal.Gen.bitsLt_bf16_f32 = _
    rw [b0, b1, b2, b3]
    rfl

end Cert.FfnLIdeal.Hand
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnF
public import proofs.«01_k».proof.Proof.Gen.FfnF.Skeleton
public import proofs.«01_k».proof.Proof.Gen.FfnF.Launch
public import proofs.«01_k».proof.Proof.Gen.FfnF.Points
public import proofs.«01_k».proof.Proof.Gen.FfnF.Frame
public import proofs.«01_k».proof.Proof.Gen.FfnFIdeal
public import proofs.«01_k».proof.Proof.Gen.FfnFIdeal.Skeleton
public import proofs.«01_k».proof.Proof.Gen.FfnFIdeal.Launch
public import proofs.«01_k».proof.Proof.Gen.FfnFIdeal.Points
public import proofs.«01_k».proof.Proof.Gen.FfnFIdeal.Frame
public import proofs.«01_k».proof.Proof.Gen.FfnFIdeal.Value
public import proofs.«01_k».proof.Proof.Gen.FfnFRefIdeal
public import proofs.«01_k».proof.Proof.Gen.FfnFRefIdeal.Run
public import proofs.«01_k».proof.Proof.Gen.AttnF
public import proofs.«01_k».proof.Proof.Gen.AttnF.Skeleton
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.Cols
public import proofs.«01_k».proof.Proof.Gen.Cols.Skeleton
public import proofs.«01_k».proof.Proof.Gen.Cols.Launch
public import proofs.«01_k».proof.Proof.Gen.Cols.Points
public import proofs.«01_k».proof.Proof.Gen.Cols.Frame
public import proofs.«01_k».proof.Proof.Gen.ColsIdeal
public import proofs.«01_k».proof.Proof.Gen.ColsIdeal.Skeleton
public import proofs.«01_k».proof.Proof.Gen.ColsIdeal.Launch
public import proofs.«01_k».proof.Proof.Gen.ColsIdeal.Points
public import proofs.«01_k».proof.Proof.Gen.ColsIdeal.Frame
public import proofs.«01_k».proof.Proof.Gen.ColsIdeal.Value
public import proofs.«01_k».proof.Proof.Gen.ColsRefIdeal
public import proofs.«01_k».proof.Proof.Gen.ColsRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.FfnL
public import proofs.«01_k».proof.Proof.Gen.FfnL.Skeleton
public import proofs.«01_k».proof.Proof.Gen.FfnL.Launch
public import proofs.«01_k».proof.Proof.Gen.FfnL.Points
public import proofs.«01_k».proof.Proof.Gen.FfnL.Frame
public import proofs.«01_k».proof.Proof.Gen.FfnLIdeal
public import proofs.«01_k».proof.Proof.Gen.FfnLIdeal.Skeleton
public import proofs.«01_k».proof.Proof.Gen.FfnLIdeal.Launch
public import proofs.«01_k».proof.Proof.Gen.FfnLIdeal.Points
public import proofs.«01_k».proof.Proof.Gen.FfnLIdeal.Frame
public import proofs.«01_k».proof.Proof.Gen.FfnLIdeal.Value
public import proofs.«01_k».proof.Proof.Gen.FfnLRefIdeal
public import proofs.«01_k».proof.Proof.Gen.FfnLRefIdeal.Run
public import proofs.«01_k».proof.Proof.Gen.Pre_finite_scores
public import proofs.«01_k».proof.Proof.Gen.Pre_finite_block
public import proofs.«01_k».proof.Proof.Gen.Pre_finite_gates
public import proofs.«01_k».proof.Proof.Gen.Pre_finite_gates_l
public import proofs.«01_k».proof.Proof.AttnClaim
public import proofs.«01_k».proof.Proof.DownClaim
public import proofs.«01_k».proof.Proof.FfnClaim
public import proofs.«01_k».proof.Proof.FfnFClaim
public import proofs.«01_k».proof.Proof.AttnFClaim
public import proofs.«01_k».proof.Proof.ColsClaim
public import proofs.«01_k».proof.Proof.ProjClaim
public import proofs.«01_k».proof.Proof.FfnLClaim
public import Idealize.ShloMosaic.Adequacy
public import Idealize.ShloMosaic.Init

@[expose] public section

noncomputable section

namespace Cert.Proof

open Idealize.ShloMosaic Idealize.SL.Sem

theorem frame_Attn : quiescent_AttnRefIdeal (hAttnRefIdeal := Cert.AttnRefIdeal.Gen.facts) := by
  intro m g _
  exact (θ_run Cert.AttnRefIdeal.defs _ _).mono (fun r h => ⟨fun c => (h c).2.2.2.2.2.2, sem_eq_zero_of_no_sems (by decide) r.2⟩)
    (Cert.AttnRefIdeal.Value.run m g)

theorem frame_Down : quiescent_DownRefIdeal (hDownRefIdeal := Cert.DownRefIdeal.Gen.facts) := by
  intro m g _
  exact (θ_run Cert.DownRefIdeal.defs _ _).mono (fun r h => ⟨fun c => (h c).2, sem_eq_zero_of_no_sems (by decide) r.2⟩)
    (Cert.DownRefIdeal.Value.run m g)

theorem frame_Ffn : quiescent_FfnRefIdeal (hFfnRefIdeal := Cert.FfnRefIdeal.Gen.facts) := by
  intro m g _
  exact (θ_run Cert.FfnRefIdeal.defs _ _).mono (fun r h => ⟨fun c => (h c).2.2.2.2.2, sem_eq_zero_of_no_sems (by decide) r.2⟩)
    (Cert.FfnRefIdeal.Value.run m g)

theorem frame_FfnF : quiescent_FfnFRefIdeal (hFfnFRefIdeal := Cert.FfnFRefIdeal.Gen.facts) := by
  intro m g _
  exact (θ_run Cert.FfnFRefIdeal.defs _ _).mono (fun r h => ⟨fun c => (h c).2.2.2.2.2.2, sem_eq_zero_of_no_sems (by decide) r.2⟩)
    (Cert.FfnFRefIdeal.Value.run m g)

theorem frame_AttnF : quiescent_AttnFRefIdeal (hAttnFRefIdeal := Cert.AttnFRefIdeal.Gen.facts) := by
  intro m g _
  exact (θ_run Cert.AttnFRefIdeal.defs _ _).mono (fun r h => ⟨fun c => (h c).2.2.2.2.2, sem_eq_zero_of_no_sems (by decide) r.2⟩)
    (Cert.AttnFRefIdeal.Value.run m g)

theorem frame_Cols : quiescent_ColsRefIdeal (hColsRefIdeal := Cert.ColsRefIdeal.Gen.facts) := by
  intro m g _
  exact (θ_run Cert.ColsRefIdeal.defs _ _).mono (fun r h => ⟨fun c => (h c).2, sem_eq_zero_of_no_sems (by decide) r.2⟩)
    (Cert.ColsRefIdeal.Value.run m g)

theorem frame_Proj : quiescent_ProjRefIdeal (hProjRefIdeal := Cert.ProjRefIdeal.Gen.facts) := by
  intro m g _
  exact (θ_run Cert.ProjRefIdeal.defs _ _).mono (fun r h => ⟨fun c => (h c).2, sem_eq_zero_of_no_sems (by decide) r.2⟩)
    (Cert.ProjRefIdeal.Value.run m g)

theorem frame_FfnL : quiescent_FfnLRefIdeal (hFfnLRefIdeal := Cert.FfnLRefIdeal.Gen.facts) := by
  intro m g _
  exact (θ_run Cert.FfnLRefIdeal.defs _ _).mono (fun r h => ⟨fun c => (h c).2.2.2.2.2.2.2.2.2, sem_eq_zero_of_no_sems (by decide) r.2⟩)
    (Cert.FfnLRefIdeal.Value.run m g)

theorem claim : Cert.Claim :=
  ⟨Cert.Attn.Gen.facts,
    Cert.AttnIdeal.Gen.facts,
    Cert.AttnRefIdeal.Gen.facts,
    Cert.Down.Gen.facts,
    Cert.DownIdeal.Gen.facts,
    Cert.DownRefIdeal.Gen.facts,
    Cert.Ffn.Gen.facts,
    Cert.FfnIdeal.Gen.facts,
    Cert.FfnRefIdeal.Gen.facts,
    Cert.FfnF.Gen.facts,
    Cert.FfnFIdeal.Gen.facts,
    Cert.FfnFRefIdeal.Gen.facts,
    Cert.AttnF.Gen.facts,
    Cert.AttnFIdeal.Gen.facts,
    Cert.AttnFRefIdeal.Gen.facts,
    Cert.Cols.Gen.facts,
    Cert.ColsIdeal.Gen.facts,
    Cert.ColsRefIdeal.Gen.facts,
    Cert.Proj.Gen.facts,
    Cert.ProjIdeal.Gen.facts,
    Cert.ProjRefIdeal.Gen.facts,
    Cert.FfnL.Gen.facts,
    Cert.FfnLIdeal.Gen.facts,
    Cert.FfnLRefIdeal.Gen.facts,
    Cert.Pre_finite_scores.Gen.facts,
    Cert.Pre_finite_block.Gen.facts,
    Cert.Pre_finite_gates.Gen.facts,
    Cert.Pre_finite_gates_l.Gen.facts,
    fun m ρ _ => Cert.Attn.Gen.frame m ρ,
    fun m ρ _ => Cert.AttnIdeal.Gen.frame m ρ,
    fun m ρ _ => Cert.AttnIdeal.Gen.frame m ρ,
    frame_Attn,
    fun m ρ _ => frame_Attn m ρ True.intro,
    fun m ρ _ => Cert.Down.Gen.frame m ρ,
    fun m ρ _ => Cert.DownIdeal.Gen.frame m ρ,
    frame_Down,
    fun m ρ _ => Cert.Ffn.Gen.frame m ρ,
    fun m ρ _ => Cert.FfnIdeal.Gen.frame m ρ,
    fun m ρ _ => Cert.FfnIdeal.Gen.frame m ρ,
    frame_Ffn,
    fun m ρ _ => frame_Ffn m ρ True.intro,
    fun m ρ _ => Cert.FfnF.Gen.frame m ρ,
    fun m ρ _ => Cert.FfnFIdeal.Gen.frame m ρ,
    fun m ρ _ => Cert.FfnFIdeal.Gen.frame m ρ,
    frame_FfnF,
    fun m ρ _ => frame_FfnF m ρ True.intro,
    fun m ρ _ => Cert.AttnF.Gen.frame m ρ,
    fun m ρ _ => Cert.AttnFIdeal.Gen.frame m ρ,
    frame_AttnF,
    fun m ρ _ => Cert.Cols.Gen.frame m ρ,
    fun m ρ _ => Cert.ColsIdeal.Gen.frame m ρ,
    frame_Cols,
    fun m ρ _ => Cert.Proj.Gen.frame m ρ,
    fun m ρ _ => Cert.ProjIdeal.Gen.frame m ρ,
    frame_Proj,
    fun m ρ _ => Cert.FfnL.Gen.frame m ρ,
    fun m ρ _ => Cert.FfnLIdeal.Gen.frame m ρ,
    fun m ρ _ => Cert.FfnLIdeal.Gen.frame m ρ,
    frame_FfnL,
    fun m ρ _ => frame_FfnL m ρ True.intro,
    trivial,
    Cert.AttnIdeal.Hand.algebraic,
    trivial,
    Cert.DownIdeal.Hand.algebraic,
    trivial,
    Cert.FfnIdeal.Hand.algebraic,
    trivial,
    Cert.FfnFIdeal.Hand.algebraic,
    trivial,
    Cert.AttnFIdeal.Hand.algebraic,
    trivial,
    Cert.ColsIdeal.Hand.algebraic,
    trivial,
    Cert.ProjIdeal.Hand.algebraic,
    trivial,
    Cert.FfnLIdeal.Hand.algebraic⟩

end Cert.Proof

end
